-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_vocab [hPre_codes_in_vocab : Cert.Pre_codes_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_vocab [hPre_codes_in_vocab : Cert.Pre_codes_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_codes_in_vocab [hKernelIdeal : Cert.KernelIdeal.Facts] [hPre_codes_in_vocab : Cert.Pre_codes_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_vocab [hReferenceIdeal : Cert.ReferenceIdeal.Facts] [hPre_codes_in_vocab : Cert.Pre_codes_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_codes_in_vocab [hKernelIdeal : Cert.KernelIdeal.Facts] [hReferenceIdeal : Cert.ReferenceIdeal.Facts] [hPre_codes_in_vocab : Cert.Pre_codes_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_codes_in_vocab : Cert.Pre_codes_in_vocab.Facts),
    quiescent_Kernel (hKernel := hKernel)
    ∧ quiescent_KernelIdeal (hKernelIdeal := hKernelIdeal)
    ∧ quiescent_KernelIdeal_pre_codes_in_vocab (hKernelIdeal := hKernelIdeal) (hPre_codes_in_vocab := hPre_codes_in_vocab)
    ∧ quiescent_ReferenceIdeal (hReferenceIdeal := hReferenceIdeal)
    ∧ quiescent_ReferenceIdeal_pre_codes_in_vocab (hReferenceIdeal := hReferenceIdeal) (hPre_codes_in_vocab := hPre_codes_in_vocab)
    ∧ preserves_Kernel_KernelIdeal
    ∧ algebraic_KernelIdeal_ReferenceIdeal_pre_codes_in_vocab (hKernelIdeal := hKernelIdeal) (hReferenceIdeal := hReferenceIdeal) (hPre_codes_in_vocab := hPre_codes_in_vocab)
-- ==== Pre_codes_in_vocab.lean ====
abbrev S11520x4096 : Shape := ⟨2, ![11520, 4096]⟩
abbrev S8x4096x2048 : Shape := ⟨3, ![8, 4096, 2048]⟩
abbrev S8x2048 : Shape := ⟨2, ![8, 2048]⟩
abbrev S6x1920x8 : Shape := ⟨3, ![6, 1920, 8]⟩
abbrev S6 : Shape := ⟨1, ![6]⟩
abbrev S_ : Shape := ⟨0, ![]⟩

class Facts : Prop where
  bcast_S_S6x1920x8 : S_.BroadcastsInDim S6x1920x8 (![] : Fin 0 → Fin S6x1920x8.rank)
  reducesTo_S6x1920x8_S_d0_1_2 : S6x1920x8.ReducesTo [0, 1, 2] S_
  h_S_ : 0 < S_.numel
  bcast_S_S6 : S_.BroadcastsInDim S6 (![] : Fin 0 → Fin S6.rank)
  reducesTo_S6_S_d0 : S6.ReducesTo [0] S_

variable [Facts]

def fn {F : FTy → Type} [FloatOps F] (main_arg0 : FVec F S11520x4096 .bf16) (main_arg1 : FVec F S8x4096x2048 .fp8e4m3) (main_arg2 : FVec F S8x2048 .f32) (main_arg3 : IVec S6x1920x8 32) (main_arg4 : IVec S6 32) : IVec S_ 1 :=
  let main_c : IVec S_ 32 := constantI S_ 32 0#32
  let main_v0 : IVec S6x1920x8 32 := broadcastInDim S6x1920x8 ![] bcast_S_S6x1920x8 main_c
  let main_v1 : IVec S6x1920x8 1 := cmpi .sge main_arg3 main_v0
  let main_c_0 : IVec S_ 1 := constantI S_ 1 1#1
  let main_v2 : IVec S_ 1 := (fun x v => Host.reduce IntOp.andi x v reducesTo_S6x1920x8_S_d0_1_2 h_S_) main_v1 main_c_0
  let main_c_1 : IVec S_ 32 := constantI S_ 32 2048#32
  let main_v3 : IVec S6x1920x8 32 := broadcastInDim S6x1920x8 ![] bcast_S_S6x1920x8 main_c_1
  let main_v4 : IVec S6x1920x8 1 := cmpi .slt main_arg3 main_v3
  let main_c_2 : IVec S_ 1 := constantI S_ 1 1#1
  let main_v5 : IVec S_ 1 := (fun x v => Host.reduce IntOp.andi x v reducesTo_S6x1920x8_S_d0_1_2 h_S_) main_v4 main_c_2
  let main_v6 : IVec S_ 1 := andi main_v2 main_v5
  let main_c_3 : IVec S_ 32 := constantI S_ 32 2147483640#32
  let main_v7 : IVec S6 32 := broadcastInDim S6 ![] bcast_S_S6 main_c_3
  let main_v8 : IVec S6 1 := cmpi .sle main_arg4 main_v7
  let main_c_4 : IVec S_ 1 := constantI S_ 1 1#1
  let main_v9 : IVec S_ 1 := (fun x v => Host.reduce IntOp.andi x v reducesTo_S6_S_d0 h_S_) main_v8 main_c_4
  let main_v10 : IVec S_ 1 := andi main_v6 main_v9
  main_v10
-- ==== Kernel.lean ====
abbrev S11520x4096 : Shape := ⟨2, ![11520, 4096]⟩
abbrev S8x4096x2048 : Shape := ⟨3, ![8, 4096, 2048]⟩
abbrev S8x2048 : Shape := ⟨2, ![8, 2048]⟩
abbrev S6x1920x8 : Shape := ⟨3, ![6, 1920, 8]⟩
abbrev S6 : Shape := ⟨1, ![6]⟩
abbrev S6x1920x1 : Shape := ⟨3, ![6, 1920, 1]⟩
abbrev S6x1920 : Shape := ⟨2, ![6, 1920]⟩
abbrev S_ : Shape := ⟨0, ![]⟩
abbrev S6x1919x1 : Shape := ⟨3, ![6, 1919, 1]⟩
abbrev S6x1919 : Shape := ⟨2, ![6, 1919]⟩
abbrev S6x1918x1 : Shape := ⟨3, ![6, 1918, 1]⟩
abbrev S6x1918 : Shape := ⟨2, ![6, 1918]⟩
abbrev S6x1917x1 : Shape := ⟨3, ![6, 1917, 1]⟩
abbrev S6x1917 : Shape := ⟨2, ![6, 1917]⟩
abbrev S6x1916x1 : Shape := ⟨3, ![6, 1916, 1]⟩
abbrev S6x1916 : Shape := ⟨2, ![6, 1916]⟩
abbrev S6x1915x1 : Shape := ⟨3, ![6, 1915, 1]⟩
abbrev S6x1915 : Shape := ⟨2, ![6, 1915]⟩
abbrev S6x1914x1 : Shape := ⟨3, ![6, 1914, 1]⟩
abbrev S6x1914 : Shape := ⟨2, ![6, 1914]⟩
abbrev S6x1913x1 : Shape := ⟨3, ![6, 1913, 1]⟩
abbrev S6x1913 : Shape := ⟨2, ![6, 1913]⟩
abbrev S11520x8 : Shape := ⟨2, ![11520, 8]⟩
abbrev S8 : Shape := ⟨1, ![8]⟩
abbrev S6x1 : Shape := ⟨2, ![6, 1]⟩
abbrev S1x8 : Shape := ⟨2, ![1, 8]⟩
abbrev S6x8 : Shape := ⟨2, ![6, 8]⟩
abbrev S8x1x2048 : Shape := ⟨3, ![8, 1, 2048]⟩
abbrev S8x128 : Shape := ⟨2, ![8, 128]⟩
abbrev S384x4096 : Shape := ⟨2, ![384, 4096]⟩
abbrev S1x4096x2048 : Shape := ⟨3, ![1, 4096, 2048]⟩
abbrev S1x1x2048 : Shape := ⟨3, ![1, 1, 2048]⟩
abbrev S384x8 : Shape := ⟨2, ![384, 8]⟩
abbrev S1 : Shape := ⟨1, ![1]⟩
abbrev S384 : Shape := ⟨1, ![384]⟩
abbrev S384x1 : Shape := ⟨2, ![384, 1]⟩
abbrev S1x4096x512 : Shape := ⟨3, ![1, 4096, 512]⟩
abbrev S4096x512 : Shape := ⟨2, ![4096, 512]⟩
abbrev S384x512 : Shape := ⟨2, ![384, 512]⟩
abbrev S1x1x512 : Shape := ⟨3, ![1, 1, 512]⟩
abbrev S1x512 : Shape := ⟨2, ![1, 512]⟩
abbrev S1x384x1 : Shape := ⟨3, ![1, 384, 1]⟩
abbrev S1x1x1 : Shape := ⟨3, ![1, 1, 1]⟩

abbrev nBuf : Space → Nat
  | .hbm => 88
  | .vmem => 15
  | .smem => 1
  | _ => 0

abbrev bufTy : (tb : Table) → Fin (tcTables nBuf tb) → BufTy
  | .hbm, ⟨0, _⟩ => ⟨S11520x4096, .bf16⟩
  | .hbm, ⟨1, _⟩ => ⟨S8x4096x2048, .fp8e4m3⟩
  | .hbm, ⟨2, _⟩ => ⟨S8x2048, .f32⟩
  | .hbm, ⟨3, _⟩ => ⟨S6x1920x8, .i32⟩
  | .hbm, ⟨4, _⟩ => ⟨S6x1920x1, .i32⟩
  | .hbm, ⟨5, _⟩ => ⟨S6x1920, .i32⟩
  | .hbm, ⟨6, _⟩ => ⟨S_, .i32⟩
  | .hbm, ⟨7, _⟩ => ⟨S_, .i32⟩
  | .hbm, ⟨8, _⟩ => ⟨S6x1920, .i32⟩
  | .hbm, ⟨9, _⟩ => ⟨S6x1919x1, .i32⟩
  | .hbm, ⟨10, _⟩ => ⟨S6x1919, .i32⟩
  | .hbm, ⟨11, _⟩ => ⟨S_, .i32⟩
  | .hbm, ⟨12, _⟩ => ⟨S_, .i32⟩
  | .hbm, ⟨13, _⟩ => ⟨S6x1920, .i32⟩
  | .hbm, ⟨14, _⟩ => ⟨S6x1918x1, .i32⟩
  | .hbm, ⟨15, _⟩ => ⟨S6x1918, .i32⟩
  | .hbm, ⟨16, _⟩ => ⟨S_, .i32⟩
  | .hbm, ⟨17, _⟩ => ⟨S_, .i32⟩
  | .hbm, ⟨18, _⟩ => ⟨S6x1920, .i32⟩
  | .hbm, ⟨19, _⟩ => ⟨S6x1917x1, .i32⟩
  | .hbm, ⟨20, _⟩ => ⟨S6x1917, .i32⟩
  | .hbm, ⟨21, _⟩ => ⟨S_, .i32⟩
  | .hbm, ⟨22, _⟩ => ⟨S_, .i32⟩
  | .hbm, ⟨23, _⟩ => ⟨S6x1920, .i32⟩
  | .hbm, ⟨24, _⟩ => ⟨S6x1916x1, .i32⟩
  | .hbm, ⟨25, _⟩ => ⟨S6x1916, .i32⟩
  | .hbm, ⟨26, _⟩ => ⟨S_, .i32⟩
  | .hbm, ⟨27, _⟩ => ⟨S_, .i32⟩
  | .hbm, ⟨28, _⟩ => ⟨S6x1920, .i32⟩
  | .hbm, ⟨29, _⟩ => ⟨S6x1915x1, .i32⟩
  | .hbm, ⟨30, _⟩ => ⟨S6x1915, .i32⟩
  | .hbm, ⟨31, _⟩ => ⟨S_, .i32⟩
  | .hbm, ⟨32, _⟩ => ⟨S_, .i32⟩
  | .hbm, ⟨33, _⟩ => ⟨S6x1920, .i32⟩
  | .hbm, ⟨34, _⟩ => ⟨S6x1914x1, .i32⟩
  | .hbm, ⟨35, _⟩ => ⟨S6x1914, .i32⟩
  | .hbm, ⟨36, _⟩ => ⟨S_, .i32⟩
  | .hbm, ⟨37, _⟩ => ⟨S_, .i32⟩
  | .hbm, ⟨38, _⟩ => ⟨S6x1920, .i32⟩
  | .hbm, ⟨39, _⟩ => ⟨S6x1913x1, .i32⟩
  | .hbm, ⟨40, _⟩ => ⟨S6x1913, .i32⟩
  | .hbm, ⟨41, _⟩ => ⟨S_, .i32⟩
  | .hbm, ⟨42, _⟩ => ⟨S_, .i32⟩
  | .hbm, ⟨43, _⟩ => ⟨S6x1920, .i32⟩
  | .hbm, ⟨44, _⟩ => ⟨S6x1920x1, .i32⟩
  | .hbm, ⟨45, _⟩ => ⟨S6x1920x1, .i32⟩
  | .hbm, ⟨46, _⟩ => ⟨S6x1920x1, .i32⟩
  | .hbm, ⟨47, _⟩ => ⟨S6x1920x1, .i32⟩
  | .hbm, ⟨48, _⟩ => ⟨S6x1920x1, .i32⟩
  | .hbm, ⟨49, _⟩ => ⟨S6x1920x1, .i32⟩
  | .hbm, ⟨50, _⟩ => ⟨S6x1920x1, .i32⟩
  | .hbm, ⟨51, _⟩ => ⟨S6x1920x1, .i32⟩
  | .hbm, ⟨52, _⟩ => ⟨S6x1920x8, .i32⟩
  | .hbm, ⟨53, _⟩ => ⟨S11520x8, .i32⟩
  | .hbm, ⟨54, _⟩ => ⟨S8, .i32⟩
  | .hbm, ⟨55, _⟩ => ⟨S6x1, .i32⟩
  | .hbm, ⟨56, _⟩ => ⟨S1x8, .i32⟩
  | .hbm, ⟨57, _⟩ => ⟨S_, .i32⟩
  | .hbm, ⟨58, _⟩ => ⟨S1x8, .i32⟩
  | .hbm, ⟨59, _⟩ => ⟨S1x8, .i32⟩
  | .hbm, ⟨60, _⟩ => ⟨S6x8, .i32⟩
  | .hbm, ⟨61, _⟩ => ⟨S6x8, .i32⟩
  | .hbm, ⟨62, _⟩ => ⟨S6x8, .i32⟩
  | .hbm, ⟨63, _⟩ => ⟨S_, .i32⟩
  | .hbm, ⟨64, _⟩ => ⟨S_, .i32⟩
  | .hbm, ⟨65, _⟩ => ⟨S6x8, .i32⟩
  | .hbm, ⟨66, _⟩ => ⟨S6x8, .i32⟩
  | .hbm, ⟨67, _⟩ => ⟨S_, .i32⟩
  | .hbm, ⟨68, _⟩ => ⟨S8, .i32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .i1⟩
  | .hbm, ⟨73, _⟩ => ⟨S_, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8x1x2048, .f32⟩
  | .hbm, ⟨78, _⟩ => ⟨S11520x8, .f32⟩
  | .hbm, ⟨79, _⟩ => ⟨S8x128, .f32⟩
  | .hbm, ⟨80, _⟩ => ⟨S1x8, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S6x1920x8, .f32⟩
  | .local _ .vmem, ⟨0, _⟩ => ⟨S384x4096, .bf16⟩
  | .local _ .vmem, ⟨1, _⟩ => ⟨S384x4096, .bf16⟩
  | .local _ .vmem, ⟨2, _⟩ => ⟨S1x4096x2048, .fp8e4m3⟩
  | .local _ .vmem, ⟨3, _⟩ => ⟨S1x4096x2048, .fp8e4m3⟩
  | .local _ .vmem, ⟨4, _⟩ => ⟨S1x1x2048, .f32⟩
  | .local _ .vmem, ⟨5, _⟩ => ⟨S1x1x2048, .f32⟩
  | .local _ .vmem, ⟨6, _⟩ => ⟨S384x8, .i32⟩
  | .local _ .vmem, ⟨7, _⟩ => ⟨S384x8, .i32⟩
  | .local _ .vmem, ⟨8, _⟩ => ⟨S384x8, .f32⟩
  | .local _ .vmem, ⟨9, _⟩ => ⟨S384x8, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .smem, ⟨0, _⟩ => ⟨S6, .i32⟩
  | _, _ => ⟨S11520x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call4_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_call5_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call6_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_call7_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_call8_v0 : Ref sig .tc := ⟨.hbm, 64, rfl⟩
abbrev main_call8_v1 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_cst : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_call9_v0 : Ref sig .tc := ⟨.hbm, 74, rfl⟩
abbrev main_call9_v1 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![30, 8], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c5_i32 : BitVec 32 := 5#32
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let v0 : BitVec 32 := Scalar.divsi arg0 c5_i32
  let c1_i32 : BitVec 32 := 1#32
  let v15 : BitVec 32 := Scalar.subi v0 c1_i32
  let v16 : BitVec 32 := Scalar.select v14 v15 v0
  let v28 : Index := Scalar.indexCast v16
  ![v28.toNat]
def k0_cond1 (i : grid0.Coords) : BitVec 1 :=
  let arg1 : BitVec 32 := BitVec.ofNat 32 (i 1).val
  let c0_i32_12 : BitVec 32 := 0#32
  let v35 : BitVec 1 := Scalar.cmpi .eq arg1 c0_i32_12
  let v36 : BitVec 32 := Scalar.extui v35
  let c0_i32_13 : BitVec 32 := 0#32
  let v37 : BitVec 1 := Scalar.cmpi .ne v36 c0_i32_13
  v37

def k0_cond3 (i : grid0.Coords) (v29 : BitVec 32) : BitVec 1 :=
  let c0_i32_10 : BitVec 32 := 0#32
  let v30 : BitVec 1 := Scalar.cmpi .sgt v29 c0_i32_10
  let arg0 : BitVec 32 := BitVec.ofNat 32 (i 0).val
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let c8_i32 : BitVec 32 := 8#32
  let v31 : BitVec 32 := Scalar.addi v29 c8_i32
  let c1_i32_11 : BitVec 32 := 1#32
  let v32 : BitVec 32 := Scalar.subi v31 c1_i32_11
  let v33 : BitVec 1 := Scalar.cmpi .slt v27 v32
  let v34 : BitVec 1 := Scalar.andi v30 v33
  let v43 : BitVec 32 := Scalar.extui v34
  let c0_i32_17 : BitVec 32 := 0#32
  let v44 : BitVec 1 := Scalar.cmpi .ne v43 c0_i32_17
  v44

def k0_cond2 (i : grid0.Coords) : BitVec 1 :=
  let arg0 : BitVec 32 := BitVec.ofNat 32 (i 0).val
  let c0_i32_14 : BitVec 32 := 0#32
  let v38 : BitVec 1 := Scalar.cmpi .eq arg0 c0_i32_14
  let arg1 : BitVec 32 := BitVec.ofNat 32 (i 1).val
  let c0_i32_15 : BitVec 32 := 0#32
  let v39 : BitVec 1 := Scalar.cmpi .eq arg1 c0_i32_15
  let v40 : BitVec 1 := Scalar.andi v38 v39
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S11520x4096 : Shape := ⟨2, ![11520, 4096]⟩
abbrev S8x4096x2048 : Shape := ⟨3, ![8, 4096, 2048]⟩
abbrev S8x2048 : Shape := ⟨2, ![8, 2048]⟩
abbrev S6x1920x8 : Shape := ⟨3, ![6, 1920, 8]⟩
abbrev S6 : Shape := ⟨1, ![6]⟩
abbrev S6x1920x4096 : Shape := ⟨3, ![6, 1920, 4096]⟩
abbrev S6x1920x8x2048 : Shape := ⟨4, ![6, 1920, 8, 2048]⟩
abbrev S1x1x8x2048 : Shape := ⟨4, ![1, 1, 8, 2048]⟩
abbrev S1920 : Shape := ⟨1, ![1920]⟩
abbrev S1920x1 : Shape := ⟨2, ![1920, 1]⟩
abbrev S8 : Shape := ⟨1, ![8]⟩
abbrev S1x8 : Shape := ⟨2, ![1, 8]⟩
abbrev S1920x8 : Shape := ⟨2, ![1920, 8]⟩
abbrev S_ : Shape := ⟨0, ![]⟩
abbrev S1x1920x8 : Shape := ⟨3, ![1, 1920, 8]⟩
abbrev S6x1920x8x1 : Shape := ⟨4, ![6, 1920, 8, 1]⟩
abbrev S1 : Shape := ⟨1, ![1]⟩
abbrev S1x1x1x1 : Shape := ⟨4, ![1, 1, 1, 1]⟩
abbrev S6x1x1 : Shape := ⟨3, ![6, 1, 1]⟩
abbrev S6x1920x8x1x1 : Shape := ⟨5, ![6, 1920, 8, 1, 1]⟩
abbrev S1x1x1x1x1 : Shape := ⟨5, ![1, 1, 1, 1, 1]⟩

abbrev nBuf : Space → Nat
  | .hbm => 119
  | .vmem => 2
  | .smem => 0
  | _ => 0

abbrev bufTy : (tb : Table) → Fin (tcTables nBuf tb) → BufTy
  | .hbm, ⟨0, _⟩ => ⟨S11520x4096, .bf16⟩
  | .hbm, ⟨1, _⟩ => ⟨S8x4096x2048, .fp8e4m3⟩
  | .hbm, ⟨2, _⟩ => ⟨S8x2048, .f32⟩
  | .hbm, ⟨3, _⟩ => ⟨S6x1920x8, .i32⟩
  | .hbm, ⟨4, _⟩ => ⟨S6, .i32⟩
  | .hbm, ⟨5, _⟩ => ⟨S8x4096x2048, .bf16⟩
  | .hbm, ⟨6, _⟩ => ⟨S6x1920x4096, .bf16⟩
  | .hbm, ⟨7, _⟩ => ⟨S6x1920x8x2048, .f32⟩
  | .hbm, ⟨8, _⟩ => ⟨S1x1x8x2048, .f32⟩
  | .hbm, ⟨9, _⟩ => ⟨S6x1920x8x2048, .f32⟩
  | .hbm, ⟨10, _⟩ => ⟨S6x1920x8x2048, .f32⟩
  | .hbm, ⟨11, _⟩ => ⟨S1920, .i32⟩
  | .hbm, ⟨12, _⟩ => ⟨S1920x1, .i32⟩
  | .hbm, ⟨13, _⟩ => ⟨S8, .i32⟩
  | .hbm, ⟨14, _⟩ => ⟨S1x8, .i32⟩
  | .hbm, ⟨15, _⟩ => ⟨S1920x8, .i32⟩
  | .hbm, ⟨16, _⟩ => ⟨S1920x8, .i32⟩
  | .hbm, ⟨17, _⟩ => ⟨S1920x8, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1920x8, .i32⟩
  | .hbm, ⟨22, _⟩ => ⟨S1920x8, .i32⟩
  | .hbm, ⟨23, _⟩ => ⟨S_, .i32⟩
  | .hbm, ⟨24, _⟩ => ⟨S1920x8, .i32⟩
  | .hbm, ⟨25, _⟩ => ⟨S1920x8, .i32⟩
  | .hbm, ⟨26, _⟩ => ⟨S1x1920x8, .i32⟩
  | .hbm, ⟨27, _⟩ => ⟨S6x1920x8, .i32⟩
  | .hbm, ⟨28, _⟩ => ⟨S_, .i32⟩
  | .hbm, ⟨29, _⟩ => ⟨S6x1920x8, .i32⟩
  | .hbm, ⟨30, _⟩ => ⟨S6x1920x8, .i1⟩
  | .hbm, ⟨31, _⟩ => ⟨S_, .i32⟩
  | .hbm, ⟨32, _⟩ => ⟨S6x1920x8, .i32⟩
  | .hbm, ⟨33, _⟩ => ⟨S6x1920x8, .i32⟩
  | .hbm, ⟨34, _⟩ => ⟨S6x1920x8, .i32⟩
  | .hbm, ⟨35, _⟩ => ⟨S6x1920x8x1, .i32⟩
  | .hbm, ⟨36, _⟩ => ⟨S1, .i32⟩
  | .hbm, ⟨37, _⟩ => ⟨S_, .i32⟩
  | .hbm, ⟨38, _⟩ => ⟨S6x1920x8x1, .i32⟩
  | .hbm, ⟨39, _⟩ => ⟨S6x1920x8x1, .i1⟩
  | .hbm, ⟨40, _⟩ => ⟨S1x1x1x1, .i32⟩
  | .hbm, ⟨41, _⟩ => ⟨S6x1920x8x1, .i32⟩
  | .hbm, ⟨42, _⟩ => ⟨S6x1920x8x1, .i1⟩
  | .hbm, ⟨43, _⟩ => ⟨S6x1920x8x1, .i1⟩
  | .hbm, ⟨44, _⟩ => ⟨S_, .i1⟩
  | .hbm, ⟨45, _⟩ => ⟨S6x1920x8, .i1⟩
  | .hbm, ⟨46, _⟩ => ⟨S6x1920x8, .i32⟩
  | .hbm, ⟨47, _⟩ => ⟨S_, .i32⟩
  | .hbm, ⟨48, _⟩ => ⟨S6x1920x8, .i32⟩
  | .hbm, ⟨49, _⟩ => ⟨S6x1920x8, .i32⟩
  | .hbm, ⟨50, _⟩ => ⟨S1x1920x8, .i32⟩
  | .hbm, ⟨51, _⟩ => ⟨S_, .i32⟩
  | .hbm, ⟨52, _⟩ => ⟨S1x1920x8, .i32⟩
  | .hbm, ⟨53, _⟩ => ⟨S1x1920x8, .i1⟩
  | .hbm, ⟨54, _⟩ => ⟨S1x1920x8, .i32⟩
  | .hbm, ⟨55, _⟩ => ⟨S6x1x1, .i32⟩
  | .hbm, ⟨56, _⟩ => ⟨S6x1920x8, .i32⟩
  | .hbm, ⟨57, _⟩ => ⟨S6x1920x8, .i32⟩
  | .hbm, ⟨58, _⟩ => ⟨S6x1920x8, .i1⟩
  | .hbm, ⟨59, _⟩ => ⟨S6x1920x8, .i1⟩
  | .hbm, ⟨60, _⟩ => ⟨S6x1920x8, .i1⟩
  | .hbm, ⟨61, _⟩ => ⟨S_, .f32⟩
  | .hbm, ⟨62, _⟩ => ⟨S6x1920x8, .f32⟩
  | .hbm, ⟨63, _⟩ => ⟨S6x1920x8x1, .f32⟩
  | .hbm, ⟨64, _⟩ => ⟨S6x1920x8x2048, .f32⟩
  | .hbm, ⟨65, _⟩ => ⟨S6x1920x8x2048, .f32⟩
  | .hbm, ⟨66, _⟩ => ⟨S6x1920x8x2048, .f32⟩
  | .hbm, ⟨67, _⟩ => ⟨S_, .f32⟩
  | .hbm, ⟨68, _⟩ => ⟨S6x1920x8, .f32⟩
  | .hbm, ⟨69, _⟩ => ⟨S6x1920x8, .f32⟩
  | .hbm, ⟨70, _⟩ => ⟨S6x1920x8, .f32⟩
  | .hbm, ⟨71, _⟩ => ⟨S6x1920x8, .f32⟩
  | .hbm, ⟨72, _⟩ => ⟨S6x1920x8x1, .i32⟩
  | .hbm, ⟨73, _⟩ => ⟨S_, .i32⟩
  | .hbm, ⟨74, _⟩ => ⟨S6x1920x8x1, .i32⟩
  | .hbm, ⟨75, _⟩ => ⟨S6x1920x8x1, .i1⟩
  | .hbm, ⟨76, _⟩ => ⟨S_, .i32⟩
  | .hbm, ⟨77, _⟩ => ⟨S6x1920x8x1, .i32⟩
  | .hbm, ⟨78, _⟩ => ⟨S6x1920x8x1, .i32⟩
  | .hbm, ⟨79, _⟩ => ⟨S6x1920x8x1, .i32⟩
  | .hbm, ⟨80, _⟩ => ⟨S6x1920x8x1x1, .i32⟩
  | .hbm, ⟨81, _⟩ => ⟨S1, .i32⟩
  | .hbm, ⟨82, _⟩ => ⟨S_, .i32⟩
  | .hbm, ⟨83, _⟩ => ⟨S6x1920x8x1x1, .i32⟩
  | .hbm, ⟨84, _⟩ => ⟨S6x1920x8x1x1, .i1⟩
  | .hbm, ⟨85, _⟩ => ⟨S1x1x1x1x1, .i32⟩
  | .hbm, ⟨86, _⟩ => ⟨S6x1920x8x1x1, .i32⟩
  | .hbm, ⟨87, _⟩ => ⟨S6x1920x8x1x1, .i1⟩
  | .hbm, ⟨88, _⟩ => ⟨S6x1920x8x1x1, .i1⟩
  | .hbm, ⟨89, _⟩ => ⟨S_, .i1⟩
  | .hbm, ⟨90, _⟩ => ⟨S6x1920x8x1, .i1⟩
  | .hbm, ⟨91, _⟩ => ⟨S6x1920x8x1, .f32⟩
  | .hbm, ⟨92, _⟩ => ⟨S_, .f32⟩
  | .hbm, ⟨93, _⟩ => ⟨S6x1920x8x1, .f32⟩
  | .hbm, ⟨94, _⟩ => ⟨S6x1920x8x1, .f32⟩
  | .hbm, ⟨95, _⟩ => ⟨S6x1920x8, .f32⟩
  | .hbm, ⟨96, _⟩ => ⟨S6x1920x8, .f32⟩
  | .hbm, ⟨97, _⟩ => ⟨S_, .f32⟩
  | .hbm, ⟨98, _⟩ => ⟨S_, .f32⟩
  | .hbm, ⟨99, _⟩ => ⟨S6x1920x8, .f32⟩
  | .hbm, ⟨100, _⟩ => ⟨S6x1920x8, .f32⟩
  | .hbm, ⟨101, _⟩ => ⟨S6x1920x8, .i32⟩
  | .hbm, ⟨102, _⟩ => ⟨S_, .i32⟩
  | .hbm, ⟨103, _⟩ => ⟨S8, .i32⟩
  | .hbm, ⟨104, _⟩ => ⟨S8, .f32⟩
  | .hbm, ⟨105, _⟩ => ⟨S_, .f32⟩
  | .hbm, ⟨106, _⟩ => ⟨S8, .f32⟩
  | .hbm, ⟨107, _⟩ => ⟨S8, .i1⟩
  | .hbm, ⟨108, _⟩ => ⟨S_, .f32⟩
  | .hbm, ⟨109, _⟩ => ⟨S_, .f32⟩
  | .hbm, ⟨110, _⟩ => ⟨S8, .f32⟩
  | .hbm, ⟨111, _⟩ => ⟨S8, .f32⟩
  | .hbm, ⟨112, _⟩ => ⟨S_, .f32⟩
  | .hbm, ⟨113, _⟩ => ⟨S8, .f32⟩
  | .hbm, ⟨114, _⟩ => ⟨S8, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .local _ .vmem, ⟨0, _⟩ => ⟨S8x4096x2048, .fp8e4m3⟩
  | .local _ .vmem, ⟨1, _⟩ => ⟨S8x4096x2048, .bf16⟩
  | _, _ => ⟨S11520x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_c_4 : Ref sig .tc := ⟨.hbm, 47, rfl⟩
abbrev main_call1_v14 : Ref sig .tc := ⟨.hbm, 48, rfl⟩
abbrev main_v16 : Ref sig .tc := ⟨.hbm, 49, rfl⟩
abbrev main_v17 : Ref sig .tc := ⟨.hbm, 50, rfl⟩
abbrev main_c_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_2 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_3 : Ref sig .tc := ⟨.hbm, 97, rfl⟩
abbrev main_call3_v0 : Ref sig .tc := ⟨.hbm, 98, rfl⟩
abbrev main_call3_v1 : Ref sig .tc := ⟨.hbm, 99, rfl⟩
abbrev main_v40 : Ref sig .tc := ⟨.hbm, 100, rfl⟩
abbrev main_v41 : Ref sig .tc := ⟨.hbm, 101, rfl⟩
abbrev main_c_4 : Ref sig .tc := ⟨.hbm, 102, rfl⟩
abbrev main_v42 : Ref sig .tc := ⟨.hbm, 103, rfl⟩
abbrev main_v43 : Ref sig .tc := ⟨.hbm, 104, rfl⟩
abbrev main_cst_5 : Ref sig .tc := ⟨.hbm, 105, rfl⟩
abbrev main_v44 : Ref sig .tc := ⟨.hbm, 106, rfl⟩
abbrev main_v45 : Ref sig .tc := ⟨.hbm, 107, rfl⟩
abbrev main_cst_6 : Ref sig .tc := ⟨.hbm, 108, rfl⟩
abbrev main_call4_v0 : Ref sig .tc := ⟨.hbm, 109, rfl⟩
abbrev main_call4_v1 : Ref sig .tc := ⟨.hbm, 110, rfl⟩
abbrev main_v46 : Ref sig .tc := ⟨.hbm, 111, rfl⟩
abbrev main_cst_7 : Ref sig .tc := ⟨.hbm, 112, rfl⟩
abbrev main_v47 : Ref sig .tc := ⟨.hbm, 113, rfl⟩
abbrev main_v48 : Ref sig .tc := ⟨.hbm, 114, rfl⟩
abbrev main_cst_8 : Ref sig .tc := ⟨.hbm, 115, rfl⟩
abbrev main_v49 : Ref sig .tc := ⟨.hbm, 116, rfl⟩
abbrev main_cst_9 : Ref sig .tc := ⟨.hbm, 117, rfl⟩
abbrev main_v50 : Ref sig .tc := ⟨.hbm, 118, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KPoints.lean ====
/- When the windows of the cross-entropy call are fetched and written back, in closed form, and the body as the pipeline calls it. -/
module

public import proofs.«01_k».proof.Proof.Gen.Kernel
public import Idealize.ShloMosaic.Lib.Pipeline.Kit

@[expose] public section

noncomputable section

namespace Cert.Kernel.Ce

open Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the points ≡ 0 (mod 8), at any contents of the tables (its index map reads none). -/
theorem fetch0_0 (a : (pcfg0 (F := F)).Adm) : ∀ t : Fin (cfg0 a).N, ((cfg0 a).win 0).fetch t = true ↔ t.val % 8 = 0 :=
  (fun t => Pipeline.Window.fetchOf_reads cc0_transform_0 reads0_0 hreads0_0 0 (by decide) (by decide) (Pipeline.Window.sep_of_coord cc0_transform_0 0 0 (fun _ => rfl) (by decide)) (P := 8) (by decide) t : ∀ t : Fin grid0.N, Pipeline.Window.fetchOf grid0 false cc0_transform_0 t = true ↔ t.val % 8 = 0)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%48)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%33)) is fetched at the points ≡ 0 (mod 8), at any contents of the tables (its index map reads none). -/
theorem fetch0_3 (a : (pcfg0 (F := F)).Adm) : ∀ t : Fin (cfg0 a).N, ((cfg0 a).win 3).fetch t = true ↔ t.val % 8 = 0 :=
  (fun t => Pipeline.Window.fetchOf_reads cc0_transform_3 reads0_3 hreads0_3 0 (by decide) (by decide) (Pipeline.Window.sep_of_coord cc0_transform_3 0 0 (fun _ => rfl) (by decide)) (P := 8) (by decide) t : ∀ t : Fin grid0.N, Pipeline.Window.fetchOf grid0 false cc0_transform_3 t = true ↔ t.val % 8 = 0)
/-- Window 4 (result 0 (%49#0)) is written back at the points ≡ 7 (mod 8), at any contents of the tables (its index map reads none). -/
theorem flush0_4 (a : (pcfg0 (F := F)).Adm) : ∀ t : Fin (cfg0 a).N, ((cfg0 a).win 4).flush t = true ↔ t.val % 8 = 7 :=
  (fun t => Pipeline.Window.flushOf_reads cc0_transform_4 reads0_4 hreads0_4 0 (by decide) (by decide) (Pipeline.Window.sep_of_coord cc0_transform_4 0 0 (fun _ => rfl) (by decide)) (P := 8) (m := 7) (by decide) rfl t : ∀ t : Fin grid0.N, Pipeline.Window.flushOf grid0 true cc0_transform_4 t = true ↔ t.val % 8 = 7)
/-- Window 5 (result 1 (%49#1)) is written back at the last point only, at any contents of the tables (its index map reads none). -/
theorem flush0_5 (a : (pcfg0 (F := F)).Adm) : ∀ t : Fin (cfg0 a).N, ((cfg0 a).win 5).flush t = true ↔ t.val % 240 = 239 :=
  (fun t => Pipeline.Window.flushOf_const cc0_transform_5 (fun _ _ => rfl) (n := 240) (by decide) rfl t : ∀ t : Fin grid0.N, Pipeline.Window.flushOf grid0 true cc0_transform_5 t = true ↔ t.val % 240 = 239)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ce (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Ce

end
-- ==== Proof.KRuns.lean ====
/- What the runs of the cross-entropy body share: the host lines around the region, the windows' blocks, the branch conditions in closed form. -/
module

public import proofs.«01_k».proof.Proof.Gen.Kernel.Launch
public import proofs.«01_k».proof.Proof.Gen.Kernel.Skeleton
public import proofs.«01_k».proof.Proof.KPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Ce

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg4
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin grid0.N, cond0_0 (grid0.coords t) ↔ t.val % 8 = 0 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_1 : ∀ t : Fin grid0.N, cond0_1 (grid0.coords t) ↔ t.val % 240 = 0 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 240 = 0)

/-! ## The kernel body on any staging memrefs: a subtype the run finds -/

/-- One staging buffer of output window 4, through which its contents are stated (`View.read_writes_of_cover`: the
    choice does not matter). -/
abbrev VO0_4 : View sig .tc .vmem S384x8 .f32 := (Memref.whole cc0_stg4_0 : Memref sig .tc .vmem S384x8 .f32).view
/-- One staging buffer of output window 5, through which its contents are stated (`View.read_writes_of_cover`: the
    choice does not matter). -/
abbrev VO0_5 : View sig .tc .vmem S8x128 .f32 := (Memref.whole cc0_stg5_0 : Memref sig .tc .vmem S8x128 .f32).view
/-- Each window's current staging memref at point `t`, spelled as the pipeline passes it (`bodyAt0`), and its wholeness. -/
abbrev ms0_0 (hO : Ok m) (t : Fin (cfgM m hO).N) : Memref sig .tc .vmem S384x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S384x8 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x8 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S8x128 .f32 := Memref.whole cc0_scratch0
abbrev scM0_1 : Memref sig .tc .vmem S8x128 .f32 := Memref.whole cc0_scratch1
abbrev scM0_2 : Memref sig .tc .vmem S8x128 .f32 := Memref.whole cc0_scratch2
abbrev scM0_3 : Memref sig .tc .vmem S8x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Ce

end
-- ==== Proof.KRun.lean ====
/- The whole-body run of the cross-entropy kernel, case by case of its conditionals. -/
module

public import proofs.«01_k».proof.Proof.KRuns
public import Idealize.ShloMosaic.Lib.VecWindow

@[expose] public section

set_option maxRecDepth 16384

noncomputable section

namespace Cert.Kernel.Ce

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at grid setting `i`: from the inputs' blocks and the outputs' buffers at `xo4`, `xo5`, the body runs to
    the outputs' buffers at `y4`, `y5`, everything else as it was. -/
def RunSpec (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 y4 : Vec F S384x8 .f32) (xo5 y5 : Vec F S8x128 .f32) : Prop :=
  ∀ (arg3 : Memref sig .tc .vmem S384x4096 .bf16) (harg3 : arg3.IsWhole) (arg4 : Memref sig .tc .vmem S1x4096x2048 .fp8e4m3) (harg4 : arg4.IsWhole) (arg5 : Memref sig .tc .vmem S1x1x2048 .f32) (harg5 : arg5.IsWhole) (arg6 : Memref sig .tc .vmem S384x8 .i32) (harg6 : arg6.IsWhole) (arg7 : Memref sig .tc .vmem S384x8 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole)
    (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y4 ∗ owns (c : Thread nD τ) arg8 fullShare y5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_ce i tbM0_0 htbM0_0 arg3 harg3 arg4 harg4 arg5 harg5 arg6 harg6 arg7 harg7 arg8 harg8 arg9 harg9 arg10 harg10 arg11 harg11 arg12 harg12) K

/-- The first row of the tile in its sequence, as the kernel computes it from the grid coordinate. -/
def ceT0 (i : grid0.Coords) : BitVec 32 :=
  let arg0 : BitVec 32 := BitVec.ofNat 32 (i 0).val
  let v17 : BitVec 1 := Scalar.cmpi .eq 5#32 0#32
  let v18 : BitVec 32 := Scalar.select v17 1#32 5#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  Scalar.muli v26 384#32

/-- The length the body loads from the table. -/
def ceWord (c : Dev nD) (i : grid0.Coords) (xt0 : TbBuf0 (F := F) c tbM0_0) : Elt F .i32 :=
  View.readAt (Elt F) tbM0_0.view (Rect.unit (s := S6) (k0_off1 i) S1.size (k0_off1_inb i)).toLoadRect xt0 (Shape.Idx.first (numel1_S1.symm ▸ Nat.one_pos))

section Pure

variable (i : grid0.Coords) (w : Elt F .i32) (x0 : Vec F S384x4096 .bf16) (x1 : Vec F S1x4096x2048 .fp8e4m3) (x2 : Vec F S1x1x2048 .f32) (x3 : Vec F S384x8 .i32)

/-- The four column blocks of the weights. -/
def ceW0 : Vec F S1x4096x512 .fp8e4m3 := View.ld x1 (Rect.unit (s := S1x4096x2048) ![0, 0, 0] S1x4096x512.size inb_S1x4096x2048_S1x4096x512_0_0_0)
def ceW1 : Vec F S1x4096x512 .fp8e4m3 := View.ld x1 (Rect.unit (s := S1x4096x2048) ![0, 0, 512] S1x4096x512.size inb_S1x4096x2048_S1x4096x512_0_0_512)
def ceW2 : Vec F S1x4096x512 .fp8e4m3 := View.ld x1 (Rect.unit (s := S1x4096x2048) ![0, 0, 1024] S1x4096x512.size inb_S1x4096x2048_S1x4096x512_0_0_1024)
def ceW3 : Vec F S1x4096x512 .fp8e4m3 := View.ld x1 (Rect.unit (s := S1x4096x2048) ![0, 0, 1536] S1x4096x512.size inb_S1x4096x2048_S1x4096x512_0_0_1536)
/-- The four column blocks of the scales. -/
def ceS0 : Vec F S1x1x512 .f32 := View.ld x2 (Rect.unit (s := S1x1x2048) ![0, 0, 0] S1x1x512.size inb_S1x1x2048_S1x1x512_0_0_0)
def ceS1 : Vec F S1x1x512 .f32 := View.ld x2 (Rect.unit (s := S1x1x2048) ![0, 0, 512] S1x1x512.size inb_S1x1x2048_S1x1x512_0_0_512)
def ceS2 : Vec F S1x1x512 .f32 := View.ld x2 (Rect.unit (s := S1x1x2048) ![0, 0, 1024] S1x1x512.size inb_S1x1x2048_S1x1x512_0_0_1024)
def ceS3 : Vec F S1x1x512 .f32 := View.ld x2 (Rect.unit (s := S1x1x2048) ![0, 0, 1536] S1x1x512.size inb_S1x1x2048_S1x1x512_0_0_1536)

/-- The activations and the targets as the body loads them. -/
def ceX : Vec F S384x4096 .bf16 := View.ld x0 (Rect.unit (s := S384x4096) ![0, 0] S384x4096.size inb_S384x4096_S384x4096_0_0)
def ceC : Vec F S384x8 .i32 := View.ld x3 (Rect.unit (s := S384x8) ![0, 0] S384x8.size inb_S384x8_S384x8_0_0)

/-- The targets' column of the tile. -/
def ceTgt : IVec S384x1 32 := k0_pay5 (F := F) (BitVec.ofNat 32 (i 1).val) (ceC x3)
/-- The four column blocks of the logits. -/
def ceZ0 : FVec F S384x512 .f32 := k0_pay6 (ceX x0) (ceW0 x1) (ceS0 x2)
def ceZ1 : FVec F S384x512 .f32 := k0_pay7 (ceX x0) (ceW1 x1) (ceS1 x2)
def ceY2 : FVec F S384x512 .f32 := k0_pay8 (ceX x0) (ceW2 x1)
def ceZ2 : FVec F S384x512 .f32 := k0_pay9 (ceY2 x0 x1) (ceS2 x2)
def ceZ3 : FVec F S384x512 .f32 := k0_pay10 (ceX x0) (ceW3 x1) (ceS3 x2)
/-- The row maximum of the logits. -/
def ceMax : FVec F S384x1 .f32 := k0_pay11 (ceZ0 x0 x1 x2) (ceZ1 x0 x1 x2) (ceY2 x0 x1) (ceS2 x2) (ceX x0) (ceW3 x1) (ceS3 x2)
/-- The row sum of the exponentials. -/
def ceSum : FVec F S384x1 .f32 := k0_pay14 (ceZ1 x0 x1 x2) (ceZ2 x0 x1 x2) (ceZ3 x0 x1 x2) (ceMax x0 x1 x2) (k0_pay12 (ceZ0 x0 x1 x2) (ceZ1 x0 x1 x2) (ceY2 x0 x1) (ceS2 x2) (ceX x0) (ceW3 x1) (ceS3 x2))
/-- The target's logit of each row. -/
def ceZt : FVec F S384x1 .f32 := k0_pay15 (ceTgt (F := F) i x3) (ceZ1 x0 x1 x2) (ceZ2 x0 x1 x2) (ceZ3 x0 x1 x2) (k0_pay13 (ceTgt (F := F) i x3) (ceZ0 x0 x1 x2))

/-- The block of losses after the point, from its contents `acc` before. -/
def ceLoss (acc : Vec F S384x8 .f32) : Vec F S384x8 .f32 :=
  if k0_cond3 i w = 1#1 then k0_pay3 (BitVec.ofNat 32 (i 1).val) (ceT0 i) w (ceMax x0 x1 x2) (ceSum x0 x1 x2) (ceZt i x0 x1 x2 x3) acc else acc

/-- The block of sums after the point, from its contents `acc` before. -/
def ceSums (acc : Vec F S8x128 .f32) : Vec F S8x128 .f32 :=
  if k0_cond3 i w = 1#1 then k0_pay4 (BitVec.ofNat 32 (i 1).val) (ceT0 i) w (ceMax x0 x1 x2) (ceSum x0 x1 x2) (ceZt i x0 x1 x2 x3) acc else acc

end Pure

set_option maxHeartbeats 2000000 in
/-- The body's triple at the first point, which clears both output blocks. -/
theorem run_A (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : cond0_0 i) (hc1 : cond0_1 i) :
    RunSpec c i xt0 x0 x1 x2 x3 xo4 (ceLoss i (ceWord c i xt0) x0 x1 x2 x3 k0_pay16) xo5 (ceSums i (ceWord c i xt0) x0 x1 x2 x3 k0_pay1) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readCov_full _ _ _ _ _
      · refine (congrArg (arg7.view.read (Elt F)) (dif_neg hc)).trans ?_
        rw [if_neg hc]
        exact View.read_writes_full _ _ _ _ _
    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readCov_full _ _ _ _ _
      · refine (congrArg (arg8.view.read (Elt F)) (dif_neg hc)).trans ?_
        rw [if_neg hc]
        exact View.read_writes_full _ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option maxHeartbeats 2000000 in
/-- The body's triple at the other points of the first codebook, which clear the block of losses. -/
theorem run_C (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : cond0_0 i) (hc1 : ¬cond0_1 i) :
    RunSpec c i xt0 x0 x1 x2 x3 xo4 (ceLoss i (ceWord c i xt0) x0 x1 x2 x3 k0_pay16) xo5 (ceSums i (ceWord c i xt0) x0 x1 x2 x3 xo5) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readCov_full _ _ _ _ _
      · refine (congrArg (arg7.view.read (Elt F)) (dif_neg hc)).trans ?_
        rw [if_neg hc]
        exact View.read_writes_full _ _ _ _ _
    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readAt_full _ _ _
      · refine (congrArg (arg8.view.read (Elt F)) (dif_neg hc)).trans ?_
        rw [if_neg hc]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option maxHeartbeats 2000000 in
/-- The body's triple at the points of the other codebooks. -/
theorem run_B (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : ¬cond0_0 i) (hc1 : ¬cond0_1 i) :
    RunSpec c i xt0 x0 x1 x2 x3 xo4 (ceLoss i (ceWord c i xt0) x0 x1 x2 x3 xo4) xo5 (ceSums i (ceWord c i xt0) x0 x1 x2 x3 xo5) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readAt_full _ _ _
      · refine (congrArg (arg7.view.read (Elt F)) (dif_neg hc)).trans ?_
        rw [if_neg hc]

    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readAt_full _ _ _
      · refine (congrArg (arg8.view.read (Elt F)) (dif_neg hc)).trans ?_
        rw [if_neg hc]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Ce

end
-- ==== Proof.KFrame.lean ====
/- The frame of the cross-entropy kernel: what its two output blocks hold point by point, the body obligation, the run. -/
module

public import proofs.«01_k».proof.Proof.KRun
public import Idealize.ShloMosaic.Lib.Pipeline.TableIdle
public import Idealize.ShloMosaic.Lib.Claim

@[expose] public section

set_option maxRecDepth 16384

noncomputable section

namespace Cert.Kernel.Ce

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No index map reads the table, so the tables' side condition holds of every contents. -/
theorem ok : Ok m := trivial

/-- The two output blocks after the body at position `n`. -/
def outsAt0 (hO : Ok m) (c : Dev nD) : (n : ℕ) → n < (cfgM m hO).N → Vec F S384x8 .f32 × Vec F S8x128 .f32
  | 0, hn =>
    (ceLoss (grid0.coords ⟨0, hn⟩) (ceWord c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay16,
     ceSums (grid0.coords ⟨0, hn⟩) (ceWord c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay1)
  | n + 1, hn =>
    (ceLoss (grid0.coords ⟨n + 1, hn⟩) (ceWord c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (if (n + 1) % 8 = 0 then k0_pay16 else (outsAt0 hO c n (Nat.lt_of_succ_lt hn)).1),
     ceSums (grid0.coords ⟨n + 1, hn⟩) (ceWord c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (if (n + 1) % 240 = 0 then k0_pay1 else (outsAt0 hO c n (Nat.lt_of_succ_lt hn)).2))

/-- The block of losses the point's body finds, once cleared where it clears it. -/
def lossIn (hO : Ok m) (c : Dev nD) (t : Fin (cfgM m hO).N) : Vec F S384x8 .f32 :=
  if t.val % 8 = 0 then k0_pay16 else (outsAt0 m hO c (t.val - 1) (Nat.lt_of_le_of_lt (Nat.sub_le _ _) t.isLt)).1
/-- The block of sums the point's body finds, once cleared where it clears it. -/
def sumsIn (hO : Ok m) (c : Dev nD) (t : Fin (cfgM m hO).N) : Vec F S8x128 .f32 :=
  if t.val % 240 = 0 then k0_pay1 else (outsAt0 m hO c (t.val - 1) (Nat.lt_of_le_of_lt (Nat.sub_le _ _) t.isLt)).2

/-- `outsAt0` at a point. -/
theorem outsAt0_eq (hO : Ok m) (c : Dev nD) (t : Fin (cfgM m hO).N) :
    outsAt0 m hO c t.val t.isLt = (ceLoss (grid0.coords t) (ceWord c (grid0.coords t) (tbl m 0)) (iblk m hO c 0 t) (iblk m hO c 1 t) (iblk m hO c 2 t) (iblk m hO c 3 t) (lossIn m hO c t),
      ceSums (grid0.coords t) (ceWord c (grid0.coords t) (tbl m 0)) (iblk m hO c 0 t) (iblk m hO c 1 t) (iblk m hO c 2 t) (iblk m hO c 3 t) (sumsIn m hO c t)) := by
  obtain ⟨n, hn⟩ := t
  cases n with
  | zero => rfl
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The word the schedule's idle condition reads is the one the body loads. -/
theorem atD_eq (c : Dev nD) (i : grid0.Coords) : Pipeline.Prefetch.Contents.atD (pre := pre0) (tbl m) 0 (k0_off1 i) = ceWord c i (tbl m 0) := by
  unfold Pipeline.Prefetch.Contents.atD
  split
  · refine congrArg (tbl m 0) (funext fun a => Fin.ext ?_)
    show k0_off1 i a = k0_off1 i a + 1 * 0
    omega
  · next h => exact (h (show ∀ a : Fin 1, k0_off1 i a + 1 ≤ S6.size a from fun a => by
      have e := k0_off1_inb i a
      rwa [show S1.size a = 1 from by rw [Subsingleton.elim a 0]; rfl] at e)).elim

theorem cond1_iff (t : Fin grid0.N) : k0_cond1 (grid0.coords t) = 1#1 ↔ t.val % 8 = 0 := hcond0_0 t
theorem cond2_iff (t : Fin grid0.N) : k0_cond2 (grid0.coords t) = 1#1 ↔ t.val % 240 = 0 := hcond0_1 t

/-- Where the losses' window is idle the body neither clears its block nor is live. -/
theorem idle4 (hO : Ok m) (c : Dev nD) (t : Fin (cfgM m hO).N) (h : (cfgM m hO).idle 4 ((cfgM m hO).grid.coords t) = true) :
    ¬t.val % 8 = 0 ∧ ¬k0_cond3 (grid0.coords t) (ceWord c (grid0.coords t) (tbl m 0)) = 1#1 := by
  have h' : (!(k0_cond1 (grid0.coords t) == 1#1) && !(k0_cond3 (grid0.coords t) (Pipeline.Prefetch.Contents.atD (pre := pre0) (tbl m) 0 (k0_off1 (grid0.coords t))) == 1#1)) = true := h
  rw [atD_eq m c, Bool.and_eq_true, Bool.not_eq_true', Bool.not_eq_true', beq_eq_false_iff_ne, beq_eq_false_iff_ne] at h'
  exact ⟨fun e => h'.1 ((cond1_iff t).mpr e), h'.2⟩
theorem idle5 (hO : Ok m) (c : Dev nD) (t : Fin (cfgM m hO).N) (h : (cfgM m hO).idle 5 ((cfgM m hO).grid.coords t) = true) :
    ¬t.val % 240 = 0 ∧ ¬k0_cond3 (grid0.coords t) (ceWord c (grid0.coords t) (tbl m 0)) = 1#1 := by
  have h' : (!(k0_cond2 (grid0.coords t) == 1#1) && !(k0_cond3 (grid0.coords t) (Pipeline.Prefetch.Contents.atD (pre := pre0) (tbl m) 0 (k0_off1 (grid0.coords t))) == 1#1)) = true := h
  rw [atD_eq m c, Bool.and_eq_true, Bool.not_eq_true', Bool.not_eq_true', beq_eq_false_iff_ne, beq_eq_false_iff_ne] at h'
  exact ⟨fun e => h'.1 ((cond2_iff t).mpr e), h'.2⟩

theorem N_M (hO : Ok m) : (cfgM m hO).N = 240 := N_0

/-- An output's buffer holds nothing stored only where its block begins. -/
theorem fresh4 (hO : Ok m) : ∀ n, n < (cfgM m hO).N → ¬n % 8 = 0 → (cfgM m hO).fresh 4 n = false
  | 0, _, h => absurd (Nat.zero_mod _) h
  | n + 1, hn, h => by
    have hn' : n < (cfgM m hO).N := Nat.lt_of_succ_lt hn
    rw [Pipeline.Cfg.fresh_succ _ _ _ hn', Bool.or_eq_false_iff]
    refine ⟨Bool.eq_false_iff.mpr fun e => ?_, Bool.eq_false_iff.mpr fun e => ?_⟩
    · have := (flush0_4 (adm m hO) ⟨n, hn'⟩).mp e
      dsimp only at this; rw [N_M] at hn; omega
    · rw [Bool.and_eq_true] at e
      have h1 := (idle4 m hO 0 ⟨n, hn'⟩ e.1).1
      rw [fresh4 hO n hn' h1] at e
      exact Bool.false_ne_true e.2
theorem fresh5 (hO : Ok m) : ∀ n, n < (cfgM m hO).N → ¬n % 240 = 0 → (cfgM m hO).fresh 5 n = false
  | 0, _, h => absurd (Nat.zero_mod _) h
  | n + 1, hn, h => by
    have hn' : n < (cfgM m hO).N := Nat.lt_of_succ_lt hn
    rw [Pipeline.Cfg.fresh_succ _ _ _ hn', Bool.or_eq_false_iff]
    refine ⟨Bool.eq_false_iff.mpr fun e => ?_, Bool.eq_false_iff.mpr fun e => ?_⟩
    · have := (flush0_5 (adm m hO) ⟨n, hn'⟩).mp e
      dsimp only at this; rw [N_M] at hn; omega
    · rw [Bool.and_eq_true] at e
      have h1 := (idle5 m hO 0 ⟨n, hn'⟩ e.1).1
      rw [fresh5 hO n hn' h1] at e
      exact Bool.false_ne_true e.2

/-- Where a window is idle its block stays as the point before left it. -/
theorem carry4 (hO : Ok m) (c : Dev nD) (t : Fin (cfgM m hO).N) (h : (cfgM m hO).idle 4 ((cfgM m hO).grid.coords t) = true) :
    (outsAt0 m hO c t.val t.isLt).1 = (outsAt0 m hO c (t.val - 1) (Nat.lt_of_le_of_lt (Nat.sub_le _ _) t.isLt)).1 := by
  obtain ⟨h0, hl⟩ := idle4 m hO c t h
  rw [outsAt0_eq]; dsimp only
  unfold ceLoss lossIn
  rw [if_neg hl, if_neg h0]
theorem carry5 (hO : Ok m) (c : Dev nD) (t : Fin (cfgM m hO).N) (h : (cfgM m hO).idle 5 ((cfgM m hO).grid.coords t) = true) :
    (outsAt0 m hO c t.val t.isLt).2 = (outsAt0 m hO c (t.val - 1) (Nat.lt_of_le_of_lt (Nat.sub_le _ _) t.isLt)).2 := by
  obtain ⟨h0, hl⟩ := idle5 m hO c t h
  rw [outsAt0_eq]; dsimp only
  unfold ceSums sumsIn
  rw [if_neg hl, if_neg h0]

/-- What the body finds in an output's buffer within its block: what the point before left. -/
theorem before0_4 (hO : Ok m) (c : Dev nD) (t : Fin (cfgM m hO).N) (h0 : ¬t.val % 8 = 0) (d) :
    (dats m hO 0 c).before 4 t d = (outsAt0 m hO c (t.val - 1) (Nat.lt_of_le_of_lt (Nat.sub_le _ _) t.isLt)).1 := by
  rw [Dat.before_out_traj (dats m hO 0 c) 4 rfl (fun _ _ => rfl) (fun t _ hi _ => by rw [after0_4, after0_4]; exact carry4 m hO c t hi) t.val t rfl d,
    fresh4 m hO _ t.isLt h0, if_neg Bool.false_ne_true, after0_4]
theorem before0_5 (hO : Ok m) (c : Dev nD) (t : Fin (cfgM m hO).N) (h0 : ¬t.val % 240 = 0) (d) :
    (dats m hO 0 c).before 5 t d = (outsAt0 m hO c (t.val - 1) (Nat.lt_of_le_of_lt (Nat.sub_le _ _) t.isLt)).2 := by
  rw [Dat.before_out_traj (dats m hO 0 c) 5 rfl (fun _ _ => rfl) (fun t _ hi _ => by rw [after0_5, after0_5]; exact carry5 m hO c t hi) t.val t rfl d,
    fresh5 m hO _ t.isLt h0, if_neg Bool.false_ne_true, after0_5]

/-- The block after the body is what the pipeline takes back, at an idle point too. -/
theorem leaves4 (hO : Ok m) (c : Dev nD) (t : Fin (cfgM m hO).N) :
    (owns (c : Thread nD τ) (ms0_4 m hO t) fullShare ((dats m hO 0 c).after 4 t) : sProp 𝕄) ⊢ (dats m hO 0 c).leavesExact 4 t := by
  unfold Dat.leavesExact
  cases hi : (cfgM m hO).idle 4 ((cfgM m hO).grid.coords t)
  · exact .rfl
  · cases hf : ((cfgM m hO).win 4).flush t
    · iintro H
      iexists ((dats m hO 0 c).after 4 t)
      rw [before0_4 m hO c t (idle4 m hO c t hi).1, ← carry4 m hO c t hi, ← after0_4]
      iexact H
    · exact .rfl
theorem leaves5 (hO : Ok m) (c : Dev nD) (t : Fin (cfgM m hO).N) :
    (owns (c : Thread nD τ) (ms0_5 m hO t) fullShare ((dats m hO 0 c).after 5 t) : sProp 𝕄) ⊢ (dats m hO 0 c).leavesExact 5 t := by
  unfold Dat.leavesExact
  cases hi : (cfgM m hO).idle 5 ((cfgM m hO).grid.coords t)
  · exact .rfl
  · cases hf : ((cfgM m hO).win 5).flush t
    · iintro H
      iexists ((dats m hO 0 c).after 5 t)
      rw [before0_5 m hO c t (idle5 m hO c t hi).1, ← carry5 m hO c t hi, ← after0_5]
      iexact H
    · exact .rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 2400000 in
/-- The body at any point: the run of the case the point is in, from what the point before left. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, outsAt0_eq]
  rw [show (dats m hO 0 c).Φ t.castSucc = iprop(Pipeline.ΦA spec0 c ∗ Pipeline.ΦT pre0 (tbl m) c) from rfl, PhiT0_eq, PhiA0_eq]
  dsimp only
  have hN : t.val < 240 := lt_of_lt_of_eq t.isLt (show (cfgM m hO).N = 240 from N_0)
  by_cases h0 : t.val % 8 = 0
  · by_cases h1 : t.val % 240 = 0
    · rw [show lossIn m hO c t = k0_pay16 from if_pos h0, show sumsIn m hO c t = k0_pay1 from if_pos h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_A c (grid0.coords t) (tbl m 0) (iblk m hO c 0 t) (iblk m hO c 1 t) (iblk m hO c 2 t) (iblk m hO c 3 t) _ _ ((hcond0_0 t).mpr h0) ((hcond0_1 t).mpr h1) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
    · rw [show lossIn m hO c t = k0_pay16 from if_pos h0]
      simp only [before0_5 m hO c t h1]
      rw [← show sumsIn m hO c t = _ from if_neg h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_C c (grid0.coords t) (tbl m 0) (iblk m hO c 0 t) (iblk m hO c 1 t) (iblk m hO c 2 t) (iblk m hO c 3 t) _ _ ((hcond0_0 t).mpr h0) (fun h => h1 ((hcond0_1 t).mp h)) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 240 = 0
    · exfalso; omega
    · simp only [before0_4 m hO c t h0, before0_5 m hO c t h1]
      rw [← show lossIn m hO c t = _ from if_neg h0, ← show sumsIn m hO c t = _ from if_neg h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_B c (grid0.coords t) (tbl m 0) (iblk m hO c 0 t) (iblk m hO c 1 t) (iblk m hO c 2 t) (iblk m hO c 3 t) _ _ (fun h => h0 ((hcond0_0 t).mp h)) (fun h => h1 ((hcond0_1 t).mp h)) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The windows the schedule never leaves idle. -/
theorem leaves0 (hO : Ok m) (c : Dev nD) (t : Fin (cfgM m hO).N) : (dats m hO 0 c).leavesExact 0 t = (owns (c : Thread nD τ) (ms0_0 m hO t) fullShare ((dats m hO 0 c).after 0 t) : sProp 𝕄) := rfl
theorem leaves1 (hO : Ok m) (c : Dev nD) (t : Fin (cfgM m hO).N) : (dats m hO 0 c).leavesExact 1 t = (owns (c : Thread nD τ) (ms0_1 m hO t) fullShare ((dats m hO 0 c).after 1 t) : sProp 𝕄) := rfl
theorem leaves2 (hO : Ok m) (c : Dev nD) (t : Fin (cfgM m hO).N) : (dats m hO 0 c).leavesExact 2 t = (owns (c : Thread nD τ) (ms0_2 m hO t) fullShare ((dats m hO 0 c).after 2 t) : sProp 𝕄) := rfl
theorem leaves3 (hO : Ok m) (c : Dev nD) (t : Fin (cfgM m hO).N) : (dats m hO 0 c).leavesExact 3 t = (owns (c : Thread nD τ) (ms0_3 m hO t) fullShare ((dats m hO 0 c).after 3 t) : sProp 𝕄) := rfl

/-- What the body returns is what the pipeline takes back. -/
theorem post_leaves (hO : Ok m) (c : Dev nD) (t : Fin (cfgM m hO).N) :
    bodyPost m hO c t ⊢ iprop((dats m hO 0 c).Φ t.succ ∗ (dats m hO 0 c).owesAt () t.succ
      ∗ (dats m hO 0 c).leavesExact 0 t ∗ (dats m hO 0 c).leavesExact 1 t ∗ (dats m hO 0 c).leavesExact 2 t ∗ (dats m hO 0 c).leavesExact 3 t
      ∗ (dats m hO 0 c).leavesExact 4 t ∗ (dats m hO 0 c).leavesExact 5 t) := by
  unfold bodyPost
  rw [leaves0, leaves1, leaves2, leaves3]
  iintro ⟨Hp, Ho, H0, H1, H2, H3, H4, H5⟩
  isplitl [Hp]; · iexact Hp
  isplitl [Ho]; · iexact Ho
  isplitl [H0]; · iexact H0
  isplitl [H1]; · iexact H1
  isplitl [H2]; · iexact H2
  isplitl [H3]; · iexact H3
  isplitl [H4]; · iapply (leaves4 m hO c t); iexact H4
  iapply (leaves5 m hO c t); iexact H5

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => post_leaves m hO c t

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame of the program, at any `F`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Ce

end
-- ==== Proof.IPoints.lean ====
/- When the windows of the cross-entropy call are fetched and written back, in closed form, and the body as the pipeline calls it. -/
module

public import proofs.«01_k».proof.Proof.Gen.KernelIdeal
public import Idealize.ShloMosaic.Lib.Pipeline.Kit

@[expose] public section

noncomputable section

namespace Cert.KernelIdeal.Ce

open Cert.KernelIdeal.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the points ≡ 0 (mod 8), at any contents of the tables (its index map reads none). -/
theorem fetch0_0 (a : (pcfg0 (F := F)).Adm) : ∀ t : Fin (cfg0 a).N, ((cfg0 a).win 0).fetch t = true ↔ t.val % 8 = 0 :=
  (fun t => Pipeline.Window.fetchOf_reads cc0_transform_0 reads0_0 hreads0_0 0 (by decide) (by decide) (Pipeline.Window.sep_of_coord cc0_transform_0 0 0 (fun _ => rfl) (by decide)) (P := 8) (by decide) t : ∀ t : Fin grid0.N, Pipeline.Window.fetchOf grid0 false cc0_transform_0 t = true ↔ t.val % 8 = 0)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%48)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%33)) is fetched at the points ≡ 0 (mod 8), at any contents of the tables (its index map reads none). -/
theorem fetch0_3 (a : (pcfg0 (F := F)).Adm) : ∀ t : Fin (cfg0 a).N, ((cfg0 a).win 3).fetch t = true ↔ t.val % 8 = 0 :=
  (fun t => Pipeline.Window.fetchOf_reads cc0_transform_3 reads0_3 hreads0_3 0 (by decide) (by decide) (Pipeline.Window.sep_of_coord cc0_transform_3 0 0 (fun _ => rfl) (by decide)) (P := 8) (by decide) t : ∀ t : Fin grid0.N, Pipeline.Window.fetchOf grid0 false cc0_transform_3 t = true ↔ t.val % 8 = 0)
/-- Window 4 (result 0 (%49#0)) is written back at the points ≡ 7 (mod 8), at any contents of the tables (its index map reads none). -/
theorem flush0_4 (a : (pcfg0 (F := F)).Adm) : ∀ t : Fin (cfg0 a).N, ((cfg0 a).win 4).flush t = true ↔ t.val % 8 = 7 :=
  (fun t => Pipeline.Window.flushOf_reads cc0_transform_4 reads0_4 hreads0_4 0 (by decide) (by decide) (Pipeline.Window.sep_of_coord cc0_transform_4 0 0 (fun _ => rfl) (by decide)) (P := 8) (m := 7) (by decide) rfl t : ∀ t : Fin grid0.N, Pipeline.Window.flushOf grid0 true cc0_transform_4 t = true ↔ t.val % 8 = 7)
/-- Window 5 (result 1 (%49#1)) is written back at the last point only, at any contents of the tables (its index map reads none). -/
theorem flush0_5 (a : (pcfg0 (F := F)).Adm) : ∀ t : Fin (cfg0 a).N, ((cfg0 a).win 5).flush t = true ↔ t.val % 240 = 239 :=
  (fun t => Pipeline.Window.flushOf_const cc0_transform_5 (fun _ _ => rfl) (n := 240) (by decide) rfl t : ∀ t : Fin grid0.N, Pipeline.Window.flushOf grid0 true cc0_transform_5 t = true ↔ t.val % 240 = 239)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ce (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Ce

end
-- ==== Proof.IRuns.lean ====
/- What the runs of the cross-entropy body share: the host lines around the region, the windows' blocks, the branch conditions in closed form. -/
module

public import proofs.«01_k».proof.Proof.Gen.KernelIdeal.Launch
public import proofs.«01_k».proof.Proof.Gen.KernelIdeal.Skeleton
public import proofs.«01_k».proof.Proof.IPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Ce

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg4
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin grid0.N, cond0_0 (grid0.coords t) ↔ t.val % 8 = 0 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_1 : ∀ t : Fin grid0.N, cond0_1 (grid0.coords t) ↔ t.val % 240 = 0 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 240 = 0)

/-! ## The kernel body on any staging memrefs: a subtype the run finds -/

/-- One staging buffer of output window 4, through which its contents are stated (`View.read_writes_of_cover`: the
    choice does not matter). -/
abbrev VO0_4 : View sig .tc .vmem S384x8 .f32 := (Memref.whole cc0_stg4_0 : Memref sig .tc .vmem S384x8 .f32).view
/-- One staging buffer of output window 5, through which its contents are stated (`View.read_writes_of_cover`: the
    choice does not matter). -/
abbrev VO0_5 : View sig .tc .vmem S8x128 .f32 := (Memref.whole cc0_stg5_0 : Memref sig .tc .vmem S8x128 .f32).view
/-- Each window's current staging memref at point `t`, spelled as the pipeline passes it (`bodyAt0`), and its wholeness. -/
abbrev ms0_0 (hO : Ok m) (t : Fin (cfgM m hO).N) : Memref sig .tc .vmem S384x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S384x8 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x8 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S8x128 .f32 := Memref.whole cc0_scratch0
abbrev scM0_1 : Memref sig .tc .vmem S8x128 .f32 := Memref.whole cc0_scratch1
abbrev scM0_2 : Memref sig .tc .vmem S8x128 .f32 := Memref.whole cc0_scratch2
abbrev scM0_3 : Memref sig .tc .vmem S8x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Ce

end
-- ==== Proof.IRun.lean ====
/- The whole-body run of the cross-entropy kernel, case by case of its conditionals. -/
module

public import proofs.«01_k».proof.Proof.IRuns
public import Idealize.ShloMosaic.Lib.VecWindow

@[expose] public section

set_option maxRecDepth 16384

noncomputable section

namespace Cert.KernelIdeal.Ce

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at grid setting `i`: from the inputs' blocks and the outputs' buffers at `xo4`, `xo5`, the body runs to
    the outputs' buffers at `y4`, `y5`, everything else as it was. -/
def RunSpec (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 y4 : Vec F S384x8 .f32) (xo5 y5 : Vec F S8x128 .f32) : Prop :=
  ∀ (arg3 : Memref sig .tc .vmem S384x4096 .bf16) (harg3 : arg3.IsWhole) (arg4 : Memref sig .tc .vmem S1x4096x2048 .fp8e4m3) (harg4 : arg4.IsWhole) (arg5 : Memref sig .tc .vmem S1x1x2048 .f32) (harg5 : arg5.IsWhole) (arg6 : Memref sig .tc .vmem S384x8 .i32) (harg6 : arg6.IsWhole) (arg7 : Memref sig .tc .vmem S384x8 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole)
    (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y4 ∗ owns (c : Thread nD τ) arg8 fullShare y5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_ce i tbM0_0 htbM0_0 arg3 harg3 arg4 harg4 arg5 harg5 arg6 harg6 arg7 harg7 arg8 harg8 arg9 harg9 arg10 harg10 arg11 harg11 arg12 harg12) K

/-- The first row of the tile in its sequence, as the kernel computes it from the grid coordinate. -/
def ceT0 (i : grid0.Coords) : BitVec 32 :=
  let arg0 : BitVec 32 := BitVec.ofNat 32 (i 0).val
  let v17 : BitVec 1 := Scalar.cmpi .eq 5#32 0#32
  let v18 : BitVec 32 := Scalar.select v17 1#32 5#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  Scalar.muli v26 384#32

/-- The length the body loads from the table. -/
def ceWord (c : Dev nD) (i : grid0.Coords) (xt0 : TbBuf0 (F := F) c tbM0_0) : Elt F .i32 :=
  View.readAt (Elt F) tbM0_0.view (Rect.unit (s := S6) (k0_off1 i) S1.size (k0_off1_inb i)).toLoadRect xt0 (Shape.Idx.first (numel1_S1.symm ▸ Nat.one_pos))

section Pure

variable (i : grid0.Coords) (w : Elt F .i32) (x0 : Vec F S384x4096 .bf16) (x1 : Vec F S1x4096x2048 .fp8e4m3) (x2 : Vec F S1x1x2048 .f32) (x3 : Vec F S384x8 .i32)

/-- The four column blocks of the weights. -/
def ceW0 : Vec F S1x4096x512 .fp8e4m3 := View.ld x1 (Rect.unit (s := S1x4096x2048) ![0, 0, 0] S1x4096x512.size inb_S1x4096x2048_S1x4096x512_0_0_0)
def ceW1 : Vec F S1x4096x512 .fp8e4m3 := View.ld x1 (Rect.unit (s := S1x4096x2048) ![0, 0, 512] S1x4096x512.size inb_S1x4096x2048_S1x4096x512_0_0_512)
def ceW2 : Vec F S1x4096x512 .fp8e4m3 := View.ld x1 (Rect.unit (s := S1x4096x2048) ![0, 0, 1024] S1x4096x512.size inb_S1x4096x2048_S1x4096x512_0_0_1024)
def ceW3 : Vec F S1x4096x512 .fp8e4m3 := View.ld x1 (Rect.unit (s := S1x4096x2048) ![0, 0, 1536] S1x4096x512.size inb_S1x4096x2048_S1x4096x512_0_0_1536)
/-- The four column blocks of the scales. -/
def ceS0 : Vec F S1x1x512 .f32 := View.ld x2 (Rect.unit (s := S1x1x2048) ![0, 0, 0] S1x1x512.size inb_S1x1x2048_S1x1x512_0_0_0)
def ceS1 : Vec F S1x1x512 .f32 := View.ld x2 (Rect.unit (s := S1x1x2048) ![0, 0, 512] S1x1x512.size inb_S1x1x2048_S1x1x512_0_0_512)
def ceS2 : Vec F S1x1x512 .f32 := View.ld x2 (Rect.unit (s := S1x1x2048) ![0, 0, 1024] S1x1x512.size inb_S1x1x2048_S1x1x512_0_0_1024)
def ceS3 : Vec F S1x1x512 .f32 := View.ld x2 (Rect.unit (s := S1x1x2048) ![0, 0, 1536] S1x1x512.size inb_S1x1x2048_S1x1x512_0_0_1536)

/-- The activations and the targets as the body loads them. -/
def ceX : Vec F S384x4096 .bf16 := View.ld x0 (Rect.unit (s := S384x4096) ![0, 0] S384x4096.size inb_S384x4096_S384x4096_0_0)
def ceC : Vec F S384x8 .i32 := View.ld x3 (Rect.unit (s := S384x8) ![0, 0] S384x8.size inb_S384x8_S384x8_0_0)

/-- The targets' column of the tile. -/
def ceTgt : IVec S384x1 32 := k0_pay5 (F := F) (BitVec.ofNat 32 (i 1).val) (ceC x3)
/-- The four column blocks of the logits. -/
def ceZ0 : FVec F S384x512 .f32 := k0_pay6 (ceX x0) (ceW0 x1) (ceS0 x2)
def ceZ1 : FVec F S384x512 .f32 := k0_pay7 (ceX x0) (ceW1 x1) (ceS1 x2)
def ceY2 : FVec F S384x512 .f32 := k0_pay8 (ceX x0) (ceW2 x1)
def ceZ2 : FVec F S384x512 .f32 := k0_pay9 (ceY2 x0 x1) (ceS2 x2)
def ceZ3 : FVec F S384x512 .f32 := k0_pay10 (ceX x0) (ceW3 x1) (ceS3 x2)
/-- The row maximum of the logits. -/
def ceMax : FVec F S384x1 .f32 := k0_pay11 (ceZ0 x0 x1 x2) (ceZ1 x0 x1 x2) (ceY2 x0 x1) (ceS2 x2) (ceX x0) (ceW3 x1) (ceS3 x2)
/-- The row sum of the exponentials. -/
def ceSum : FVec F S384x1 .f32 := k0_pay14 (ceZ1 x0 x1 x2) (ceZ2 x0 x1 x2) (ceZ3 x0 x1 x2) (ceMax x0 x1 x2) (k0_pay12 (ceZ0 x0 x1 x2) (ceZ1 x0 x1 x2) (ceY2 x0 x1) (ceS2 x2) (ceX x0) (ceW3 x1) (ceS3 x2))
/-- The target's logit of each row. -/
def ceZt : FVec F S384x1 .f32 := k0_pay15 (ceTgt (F := F) i x3) (ceZ1 x0 x1 x2) (ceZ2 x0 x1 x2) (ceZ3 x0 x1 x2) (k0_pay13 (ceTgt (F := F) i x3) (ceZ0 x0 x1 x2))

/-- The block of losses after the point, from its contents `acc` before. -/
def ceLoss (acc : Vec F S384x8 .f32) : Vec F S384x8 .f32 :=
  if k0_cond3 i w = 1#1 then k0_pay3 (BitVec.ofNat 32 (i 1).val) (ceT0 i) w (ceMax x0 x1 x2) (ceSum x0 x1 x2) (ceZt i x0 x1 x2 x3) acc else acc

/-- The block of sums after the point, from its contents `acc` before. -/
def ceSums (acc : Vec F S8x128 .f32) : Vec F S8x128 .f32 :=
  if k0_cond3 i w = 1#1 then k0_pay4 (BitVec.ofNat 32 (i 1).val) (ceT0 i) w (ceMax x0 x1 x2) (ceSum x0 x1 x2) (ceZt i x0 x1 x2 x3) acc else acc

end Pure

set_option maxHeartbeats 2000000 in
/-- The body's triple at the first point, which clears both output blocks. -/
theorem run_A (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : cond0_0 i) (hc1 : cond0_1 i) :
    RunSpec c i xt0 x0 x1 x2 x3 xo4 (ceLoss i (ceWord c i xt0) x0 x1 x2 x3 k0_pay16) xo5 (ceSums i (ceWord c i xt0) x0 x1 x2 x3 k0_pay1) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readCov_full _ _ _ _ _
      · refine (congrArg (arg7.view.read (Elt F)) (dif_neg hc)).trans ?_
        rw [if_neg hc]
        exact View.read_writes_full _ _ _ _ _
    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readCov_full _ _ _ _ _
      · refine (congrArg (arg8.view.read (Elt F)) (dif_neg hc)).trans ?_
        rw [if_neg hc]
        exact View.read_writes_full _ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option maxHeartbeats 2000000 in
/-- The body's triple at the other points of the first codebook, which clear the block of losses. -/
theorem run_C (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : cond0_0 i) (hc1 : ¬cond0_1 i) :
    RunSpec c i xt0 x0 x1 x2 x3 xo4 (ceLoss i (ceWord c i xt0) x0 x1 x2 x3 k0_pay16) xo5 (ceSums i (ceWord c i xt0) x0 x1 x2 x3 xo5) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readCov_full _ _ _ _ _
      · refine (congrArg (arg7.view.read (Elt F)) (dif_neg hc)).trans ?_
        rw [if_neg hc]
        exact View.read_writes_full _ _ _ _ _
    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readAt_full _ _ _
      · refine (congrArg (arg8.view.read (Elt F)) (dif_neg hc)).trans ?_
        rw [if_neg hc]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

set_option maxHeartbeats 2000000 in
/-- The body's triple at the points of the other codebooks. -/
theorem run_B (c : Dev nD) (i : grid0.Coords) (xt0 : TbBuf0 (F := F) c tbM0_0) (x0 : Vec F S384x4096 .bf16) (x1 : Vec F S1x4096x2048 .fp8e4m3) (x2 : Vec F S1x1x2048 .f32) (x3 : Vec F S384x8 .i32) (xo4 : Vec F S384x8 .f32) (xo5 : Vec F S8x128 .f32)
    (hc0 : ¬cond0_0 i) (hc1 : ¬cond0_1 i) :
    RunSpec c i xt0 x0 x1 x2 x3 xo4 (ceLoss i (ceWord c i xt0) x0 x1 x2 x3 xo4) xo5 (ceSums i (ceWord c i xt0) x0 x1 x2 x3 xo5) := by
    intro arg3 harg3 arg4 harg4 arg5 harg5 arg6 harg6 arg7 harg7 arg8 harg8 arg9 harg9 arg10 harg10 arg11 harg11 arg12 harg12 E K
    simp only [cc0_ce_eq_skeleton]; unfold cc0_ce_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, HT0, Hk⟩
    subst hf0; subst hf1; subst hf2; subst hf3; subst hf4; subst hf5
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      unfold ceLoss
      by_cases hc : k0_cond3 i (ceWord c i xt0) = 1#1
      · refine (congrArg (arg7.view.read (Elt F)) (dif_pos hc)).trans ?_
        rw [if_pos hc]
        refine (View.read_writes_full _ _ _ _ _).trans ?_
        refine congrArg (k0_pay3 (F := F) _ _ _ _ _ _) ?_
        exact View.readAt_full _ _ _
      · refine (congrArg (arg7.view.read (Elt F)) (dif_neg hc)).trans ?_
        rw [if_neg hc]

    isplitl [H5]
    · iexists _; isplitr; swap; · iexact H5
      ipureintro
      unfold ceSums
      by_cases hc : k0_cond3 i (ceWord c i xt0) = 1#1
      · refine (congrArg (arg8.view.read (Elt F)) (dif_pos hc)).trans ?_
        rw [if_pos hc]
        refine (View.read_writes_full _ _ _ _ _).trans ?_
        refine congrArg (k0_pay4 (F := F) _ _ _ _ _ _) ?_
        exact View.readAt_full _ _ _
      · refine (congrArg (arg8.view.read (Elt F)) (dif_neg hc)).trans ?_
        rw [if_neg hc]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Ce

end
-- ==== Proof.IFrame.lean ====
/- The frame of the cross-entropy kernel: what its two output blocks hold point by point, the body obligation, the run. -/
module

public import proofs.«01_k».proof.Proof.IRun
public import Idealize.ShloMosaic.Lib.Pipeline.TableIdle
public import Idealize.ShloMosaic.Lib.Claim

@[expose] public section

set_option maxRecDepth 16384

noncomputable section

namespace Cert.KernelIdeal.Ce

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No index map reads the table, so the tables' side condition holds of every contents. -/
theorem ok : Ok m := trivial

/-- The two output blocks after the body at position `n`. -/
def outsAt0 (hO : Ok m) (c : Dev nD) : (n : ℕ) → n < (cfgM m hO).N → Vec F S384x8 .f32 × Vec F S8x128 .f32
  | 0, hn =>
    (ceLoss (grid0.coords ⟨0, hn⟩) (ceWord c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay16,
     ceSums (grid0.coords ⟨0, hn⟩) (ceWord c (grid0.coords ⟨0, hn⟩) (tbl m 0)) (iblk m hO c 0 ⟨0, hn⟩) (iblk m hO c 1 ⟨0, hn⟩) (iblk m hO c 2 ⟨0, hn⟩) (iblk m hO c 3 ⟨0, hn⟩) k0_pay1)
  | n + 1, hn =>
    (ceLoss (grid0.coords ⟨n + 1, hn⟩) (ceWord c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (if (n + 1) % 8 = 0 then k0_pay16 else (outsAt0 hO c n (Nat.lt_of_succ_lt hn)).1),
     ceSums (grid0.coords ⟨n + 1, hn⟩) (ceWord c (grid0.coords ⟨n + 1, hn⟩) (tbl m 0)) (iblk m hO c 0 ⟨n + 1, hn⟩) (iblk m hO c 1 ⟨n + 1, hn⟩) (iblk m hO c 2 ⟨n + 1, hn⟩) (iblk m hO c 3 ⟨n + 1, hn⟩) (if (n + 1) % 240 = 0 then k0_pay1 else (outsAt0 hO c n (Nat.lt_of_succ_lt hn)).2))

/-- The block of losses the point's body finds, once cleared where it clears it. -/
def lossIn (hO : Ok m) (c : Dev nD) (t : Fin (cfgM m hO).N) : Vec F S384x8 .f32 :=
  if t.val % 8 = 0 then k0_pay16 else (outsAt0 m hO c (t.val - 1) (Nat.lt_of_le_of_lt (Nat.sub_le _ _) t.isLt)).1
/-- The block of sums the point's body finds, once cleared where it clears it. -/
def sumsIn (hO : Ok m) (c : Dev nD) (t : Fin (cfgM m hO).N) : Vec F S8x128 .f32 :=
  if t.val % 240 = 0 then k0_pay1 else (outsAt0 m hO c (t.val - 1) (Nat.lt_of_le_of_lt (Nat.sub_le _ _) t.isLt)).2

/-- `outsAt0` at a point. -/
theorem outsAt0_eq (hO : Ok m) (c : Dev nD) (t : Fin (cfgM m hO).N) :
    outsAt0 m hO c t.val t.isLt = (ceLoss (grid0.coords t) (ceWord c (grid0.coords t) (tbl m 0)) (iblk m hO c 0 t) (iblk m hO c 1 t) (iblk m hO c 2 t) (iblk m hO c 3 t) (lossIn m hO c t),
      ceSums (grid0.coords t) (ceWord c (grid0.coords t) (tbl m 0)) (iblk m hO c 0 t) (iblk m hO c 1 t) (iblk m hO c 2 t) (iblk m hO c 3 t) (sumsIn m hO c t)) := by
  obtain ⟨n, hn⟩ := t
  cases n with
  | zero => rfl
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The word the schedule's idle condition reads is the one the body loads. -/
theorem atD_eq (c : Dev nD) (i : grid0.Coords) : Pipeline.Prefetch.Contents.atD (pre := pre0) (tbl m) 0 (k0_off1 i) = ceWord c i (tbl m 0) := by
  unfold Pipeline.Prefetch.Contents.atD
  split
  · refine congrArg (tbl m 0) (funext fun a => Fin.ext ?_)
    show k0_off1 i a = k0_off1 i a + 1 * 0
    omega
  · next h => exact (h (show ∀ a : Fin 1, k0_off1 i a + 1 ≤ S6.size a from fun a => by
      have e := k0_off1_inb i a
      rwa [show S1.size a = 1 from by rw [Subsingleton.elim a 0]; rfl] at e)).elim

theorem cond1_iff (t : Fin grid0.N) : k0_cond1 (grid0.coords t) = 1#1 ↔ t.val % 8 = 0 := hcond0_0 t
theorem cond2_iff (t : Fin grid0.N) : k0_cond2 (grid0.coords t) = 1#1 ↔ t.val % 240 = 0 := hcond0_1 t

/-- Where the losses' window is idle the body neither clears its block nor is live. -/
theorem idle4 (hO : Ok m) (c : Dev nD) (t : Fin (cfgM m hO).N) (h : (cfgM m hO).idle 4 ((cfgM m hO).grid.coords t) = true) :
    ¬t.val % 8 = 0 ∧ ¬k0_cond3 (grid0.coords t) (ceWord c (grid0.coords t) (tbl m 0)) = 1#1 := by
  have h' : (!(k0_cond1 (grid0.coords t) == 1#1) && !(k0_cond3 (grid0.coords t) (Pipeline.Prefetch.Contents.atD (pre := pre0) (tbl m) 0 (k0_off1 (grid0.coords t))) == 1#1)) = true := h
  rw [atD_eq m c, Bool.and_eq_true, Bool.not_eq_true', Bool.not_eq_true', beq_eq_false_iff_ne, beq_eq_false_iff_ne] at h'
  exact ⟨fun e => h'.1 ((cond1_iff t).mpr e), h'.2⟩
theorem idle5 (hO : Ok m) (c : Dev nD) (t : Fin (cfgM m hO).N) (h : (cfgM m hO).idle 5 ((cfgM m hO).grid.coords t) = true) :
    ¬t.val % 240 = 0 ∧ ¬k0_cond3 (grid0.coords t) (ceWord c (grid0.coords t) (tbl m 0)) = 1#1 := by
  have h' : (!(k0_cond2 (grid0.coords t) == 1#1) && !(k0_cond3 (grid0.coords t) (Pipeline.Prefetch.Contents.atD (pre := pre0) (tbl m) 0 (k0_off1 (grid0.coords t))) == 1#1)) = true := h
  rw [atD_eq m c, Bool.and_eq_true, Bool.not_eq_true', Bool.not_eq_true', beq_eq_false_iff_ne, beq_eq_false_iff_ne] at h'
  exact ⟨fun e => h'.1 ((cond2_iff t).mpr e), h'.2⟩

theorem N_M (hO : Ok m) : (cfgM m hO).N = 240 := N_0

/-- An output's buffer holds nothing stored only where its block begins. -/
theorem fresh4 (hO : Ok m) : ∀ n, n < (cfgM m hO).N → ¬n % 8 = 0 → (cfgM m hO).fresh 4 n = false
  | 0, _, h => absurd (Nat.zero_mod _) h
  | n + 1, hn, h => by
    have hn' : n < (cfgM m hO).N := Nat.lt_of_succ_lt hn
    rw [Pipeline.Cfg.fresh_succ _ _ _ hn', Bool.or_eq_false_iff]
    refine ⟨Bool.eq_false_iff.mpr fun e => ?_, Bool.eq_false_iff.mpr fun e => ?_⟩
    · have := (flush0_4 (adm m hO) ⟨n, hn'⟩).mp e
      dsimp only at this; rw [N_M] at hn; omega
    · rw [Bool.and_eq_true] at e
      have h1 := (idle4 m hO 0 ⟨n, hn'⟩ e.1).1
      rw [fresh4 hO n hn' h1] at e
      exact Bool.false_ne_true e.2
theorem fresh5 (hO : Ok m) : ∀ n, n < (cfgM m hO).N → ¬n % 240 = 0 → (cfgM m hO).fresh 5 n = false
  | 0, _, h => absurd (Nat.zero_mod _) h
  | n + 1, hn, h => by
    have hn' : n < (cfgM m hO).N := Nat.lt_of_succ_lt hn
    rw [Pipeline.Cfg.fresh_succ _ _ _ hn', Bool.or_eq_false_iff]
    refine ⟨Bool.eq_false_iff.mpr fun e => ?_, Bool.eq_false_iff.mpr fun e => ?_⟩
    · have := (flush0_5 (adm m hO) ⟨n, hn'⟩).mp e
      dsimp only at this; rw [N_M] at hn; omega
    · rw [Bool.and_eq_true] at e
      have h1 := (idle5 m hO 0 ⟨n, hn'⟩ e.1).1
      rw [fresh5 hO n hn' h1] at e
      exact Bool.false_ne_true e.2

/-- Where a window is idle its block stays as the point before left it. -/
theorem carry4 (hO : Ok m) (c : Dev nD) (t : Fin (cfgM m hO).N) (h : (cfgM m hO).idle 4 ((cfgM m hO).grid.coords t) = true) :
    (outsAt0 m hO c t.val t.isLt).1 = (outsAt0 m hO c (t.val - 1) (Nat.lt_of_le_of_lt (Nat.sub_le _ _) t.isLt)).1 := by
  obtain ⟨h0, hl⟩ := idle4 m hO c t h
  rw [outsAt0_eq]; dsimp only
  unfold ceLoss lossIn
  rw [if_neg hl, if_neg h0]
theorem carry5 (hO : Ok m) (c : Dev nD) (t : Fin (cfgM m hO).N) (h : (cfgM m hO).idle 5 ((cfgM m hO).grid.coords t) = true) :
    (outsAt0 m hO c t.val t.isLt).2 = (outsAt0 m hO c (t.val - 1) (Nat.lt_of_le_of_lt (Nat.sub_le _ _) t.isLt)).2 := by
  obtain ⟨h0, hl⟩ := idle5 m hO c t h
  rw [outsAt0_eq]; dsimp only
  unfold ceSums sumsIn
  rw [if_neg hl, if_neg h0]

/-- What the body finds in an output's buffer within its block: what the point before left. -/
theorem before0_4 (hO : Ok m) (c : Dev nD) (t : Fin (cfgM m hO).N) (h0 : ¬t.val % 8 = 0) (d) :
    (dats m hO 0 c).before 4 t d = (outsAt0 m hO c (t.val - 1) (Nat.lt_of_le_of_lt (Nat.sub_le _ _) t.isLt)).1 := by
  rw [Dat.before_out_traj (dats m hO 0 c) 4 rfl (fun _ _ => rfl) (fun t _ hi _ => by rw [after0_4, after0_4]; exact carry4 m hO c t hi) t.val t rfl d,
    fresh4 m hO _ t.isLt h0, if_neg Bool.false_ne_true, after0_4]
theorem before0_5 (hO : Ok m) (c : Dev nD) (t : Fin (cfgM m hO).N) (h0 : ¬t.val % 240 = 0) (d) :
    (dats m hO 0 c).before 5 t d = (outsAt0 m hO c (t.val - 1) (Nat.lt_of_le_of_lt (Nat.sub_le _ _) t.isLt)).2 := by
  rw [Dat.before_out_traj (dats m hO 0 c) 5 rfl (fun _ _ => rfl) (fun t _ hi _ => by rw [after0_5, after0_5]; exact carry5 m hO c t hi) t.val t rfl d,
    fresh5 m hO _ t.isLt h0, if_neg Bool.false_ne_true, after0_5]

/-- The block after the body is what the pipeline takes back, at an idle point too. -/
theorem leaves4 (hO : Ok m) (c : Dev nD) (t : Fin (cfgM m hO).N) :
    (owns (c : Thread nD τ) (ms0_4 m hO t) fullShare ((dats m hO 0 c).after 4 t) : sProp 𝕄) ⊢ (dats m hO 0 c).leavesExact 4 t := by
  unfold Dat.leavesExact
  cases hi : (cfgM m hO).idle 4 ((cfgM m hO).grid.coords t)
  · exact .rfl
  · cases hf : ((cfgM m hO).win 4).flush t
    · iintro H
      iexists ((dats m hO 0 c).after 4 t)
      rw [before0_4 m hO c t (idle4 m hO c t hi).1, ← carry4 m hO c t hi, ← after0_4]
      iexact H
    · exact .rfl
theorem leaves5 (hO : Ok m) (c : Dev nD) (t : Fin (cfgM m hO).N) :
    (owns (c : Thread nD τ) (ms0_5 m hO t) fullShare ((dats m hO 0 c).after 5 t) : sProp 𝕄) ⊢ (dats m hO 0 c).leavesExact 5 t := by
  unfold Dat.leavesExact
  cases hi : (cfgM m hO).idle 5 ((cfgM m hO).grid.coords t)
  · exact .rfl
  · cases hf : ((cfgM m hO).win 5).flush t
    · iintro H
      iexists ((dats m hO 0 c).after 5 t)
      rw [before0_5 m hO c t (idle5 m hO c t hi).1, ← carry5 m hO c t hi, ← after0_5]
      iexact H
    · exact .rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 2400000 in
/-- The body at any point: the run of the case the point is in, from what the point before left. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, outsAt0_eq]
  rw [show (dats m hO 0 c).Φ t.castSucc = iprop(Pipeline.ΦA spec0 c ∗ Pipeline.ΦT pre0 (tbl m) c) from rfl, PhiT0_eq, PhiA0_eq]
  dsimp only
  have hN : t.val < 240 := lt_of_lt_of_eq t.isLt (show (cfgM m hO).N = 240 from N_0)
  by_cases h0 : t.val % 8 = 0
  · by_cases h1 : t.val % 240 = 0
    · rw [show lossIn m hO c t = k0_pay16 from if_pos h0, show sumsIn m hO c t = k0_pay1 from if_pos h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_A c (grid0.coords t) (tbl m 0) (iblk m hO c 0 t) (iblk m hO c 1 t) (iblk m hO c 2 t) (iblk m hO c 3 t) _ _ ((hcond0_0 t).mpr h0) ((hcond0_1 t).mpr h1) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
    · rw [show lossIn m hO c t = k0_pay16 from if_pos h0]
      simp only [before0_5 m hO c t h1]
      rw [← show sumsIn m hO c t = _ from if_neg h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_C c (grid0.coords t) (tbl m 0) (iblk m hO c 0 t) (iblk m hO c 1 t) (iblk m hO c 2 t) (iblk m hO c 3 t) _ _ ((hcond0_0 t).mpr h0) (fun h => h1 ((hcond0_1 t).mp h)) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 240 = 0
    · exfalso; omega
    · simp only [before0_4 m hO c t h0, before0_5 m hO c t h1]
      rw [← show lossIn m hO c t = _ from if_neg h0, ← show sumsIn m hO c t = _ from if_neg h1]
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩⟩
      iapply (run_B c (grid0.coords t) (tbl m 0) (iblk m hO c 0 t) (iblk m hO c 1 t) (iblk m hO c 2 t) (iblk m hO c 3 t) _ _ (fun h => h0 ((hcond0_0 t).mp h)) (fun h => h1 ((hcond0_1 t).mp h)) _ _ _ _ _ _ _ _ _ _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HT0]; · iexact HT0
      iintro ⟨H0, H1, H2, H3, H4, H5, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The windows the schedule never leaves idle. -/
theorem leaves0 (hO : Ok m) (c : Dev nD) (t : Fin (cfgM m hO).N) : (dats m hO 0 c).leavesExact 0 t = (owns (c : Thread nD τ) (ms0_0 m hO t) fullShare ((dats m hO 0 c).after 0 t) : sProp 𝕄) := rfl
theorem leaves1 (hO : Ok m) (c : Dev nD) (t : Fin (cfgM m hO).N) : (dats m hO 0 c).leavesExact 1 t = (owns (c : Thread nD τ) (ms0_1 m hO t) fullShare ((dats m hO 0 c).after 1 t) : sProp 𝕄) := rfl
theorem leaves2 (hO : Ok m) (c : Dev nD) (t : Fin (cfgM m hO).N) : (dats m hO 0 c).leavesExact 2 t = (owns (c : Thread nD τ) (ms0_2 m hO t) fullShare ((dats m hO 0 c).after 2 t) : sProp 𝕄) := rfl
theorem leaves3 (hO : Ok m) (c : Dev nD) (t : Fin (cfgM m hO).N) : (dats m hO 0 c).leavesExact 3 t = (owns (c : Thread nD τ) (ms0_3 m hO t) fullShare ((dats m hO 0 c).after 3 t) : sProp 𝕄) := rfl

/-- What the body returns is what the pipeline takes back. -/
theorem post_leaves (hO : Ok m) (c : Dev nD) (t : Fin (cfgM m hO).N) :
    bodyPost m hO c t ⊢ iprop((dats m hO 0 c).Φ t.succ ∗ (dats m hO 0 c).owesAt () t.succ
      ∗ (dats m hO 0 c).leavesExact 0 t ∗ (dats m hO 0 c).leavesExact 1 t ∗ (dats m hO 0 c).leavesExact 2 t ∗ (dats m hO 0 c).leavesExact 3 t
      ∗ (dats m hO 0 c).leavesExact 4 t ∗ (dats m hO 0 c).leavesExact 5 t) := by
  unfold bodyPost
  rw [leaves0, leaves1, leaves2, leaves3]
  iintro ⟨Hp, Ho, H0, H1, H2, H3, H4, H5⟩
  isplitl [Hp]; · iexact Hp
  isplitl [Ho]; · iexact Ho
  isplitl [H0]; · iexact H0
  isplitl [H1]; · iexact H1
  isplitl [H2]; · iexact H2
  isplitl [H3]; · iexact H3
  isplitl [H4]; · iapply (leaves4 m hO c t); iexact H4
  iapply (leaves5 m hO c t); iexact H5

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => post_leaves m hO c t

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame of the program, at any `F`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Ce

end
-- ==== Proof.IHost.lean ====
/- The kernel program's host operations before and after the call, one definition per buffer. -/
module

public import proofs.«01_k».proof.Proof.IFrame
public import Idealize.ShloMosaic.Lib.StableHlo.RunRead
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.KernelIdeal.Ce

open Cert.KernelIdeal Cert.KernelIdeal.Gen

def k_v0 (C : IVec S6x1920x8 32) : IVec S6x1920x1 32 :=
  ((extractStridedSlice S6x1920x1 ![0, 0, 0] · Cert.KernelIdeal.Gen.slices_S6x1920x8_S6x1920x1_0_0_0)) C
def k_v1 (C : IVec S6x1920x8 32) : IVec S6x1920 32 :=
  shapeCast S6x1920 (k_v0 C) Cert.KernelIdeal.Gen.shapeCasts_S6x1920x1_S6x1920
def k_c : IVec S_ 32 :=
  constantI S_ 32 0#32
def k_call0_v0 : IVec S_ 32 :=
  (id) (k_c)
def k_v2 (C : IVec S6x1920x8 32) : IVec S6x1920 32 :=
  ((fun x v => pad S6x1920 ![0, 0] ![0, 0] ![0, 0] x v Cert.KernelIdeal.Gen.pads_S6x1920_S6x1920_000_000 Cert.KernelIdeal.Gen.h_S_)) (k_v1 C) (k_call0_v0)
def k_v3 (C : IVec S6x1920x8 32) : IVec S6x1919x1 32 :=
  ((extractStridedSlice S6x1919x1 ![0, 0, 1] · Cert.KernelIdeal.Gen.slices_S6x1920x8_S6x1919x1_0_0_1)) C
def k_v4 (C : IVec S6x1920x8 32) : IVec S6x1919 32 :=
  shapeCast S6x1919 (k_v3 C) Cert.KernelIdeal.Gen.shapeCasts_S6x1919x1_S6x1919
def k_c_0 : IVec S_ 32 :=
  constantI S_ 32 0#32
def k_call1_v0 : IVec S_ 32 :=
  (id) (k_c_0)
def k_v5 (C : IVec S6x1920x8 32) : IVec S6x1920 32 :=
  ((fun x v => pad S6x1920 ![0, 1] ![0, 0] ![0, 0] x v Cert.KernelIdeal.Gen.pads_S6x1919_S6x1920_000_100 Cert.KernelIdeal.Gen.h_S_)) (k_v4 C) (k_call1_v0)
def k_v6 (C : IVec S6x1920x8 32) : IVec S6x1918x1 32 :=
  ((extractStridedSlice S6x1918x1 ![0, 0, 2] · Cert.KernelIdeal.Gen.slices_S6x1920x8_S6x1918x1_0_0_2)) C
def k_v7 (C : IVec S6x1920x8 32) : IVec S6x1918 32 :=
  shapeCast S6x1918 (k_v6 C) Cert.KernelIdeal.Gen.shapeCasts_S6x1918x1_S6x1918
def k_c_1 : IVec S_ 32 :=
  constantI S_ 32 0#32
def k_call2_v0 : IVec S_ 32 :=
  (id) (k_c_1)
def k_v8 (C : IVec S6x1920x8 32) : IVec S6x1920 32 :=
  ((fun x v => pad S6x1920 ![0, 2] ![0, 0] ![0, 0] x v Cert.KernelIdeal.Gen.pads_S6x1918_S6x1920_000_200 Cert.KernelIdeal.Gen.h_S_)) (k_v7 C) (k_call2_v0)
def k_v9 (C : IVec S6x1920x8 32) : IVec S6x1917x1 32 :=
  ((extractStridedSlice S6x1917x1 ![0, 0, 3] · Cert.KernelIdeal.Gen.slices_S6x1920x8_S6x1917x1_0_0_3)) C
def k_v10 (C : IVec S6x1920x8 32) : IVec S6x1917 32 :=
  shapeCast S6x1917 (k_v9 C) Cert.KernelIdeal.Gen.shapeCasts_S6x1917x1_S6x1917
def k_c_2 : IVec S_ 32 :=
  constantI S_ 32 0#32
def k_call3_v0 : IVec S_ 32 :=
  (id) (k_c_2)
def k_v11 (C : IVec S6x1920x8 32) : IVec S6x1920 32 :=
  ((fun x v => pad S6x1920 ![0, 3] ![0, 0] ![0, 0] x v Cert.KernelIdeal.Gen.pads_S6x1917_S6x1920_000_300 Cert.KernelIdeal.Gen.h_S_)) (k_v10 C) (k_call3_v0)
def k_v12 (C : IVec S6x1920x8 32) : IVec S6x1916x1 32 :=
  ((extractStridedSlice S6x1916x1 ![0, 0, 4] · Cert.KernelIdeal.Gen.slices_S6x1920x8_S6x1916x1_0_0_4)) C
def k_v13 (C : IVec S6x1920x8 32) : IVec S6x1916 32 :=
  shapeCast S6x1916 (k_v12 C) Cert.KernelIdeal.Gen.shapeCasts_S6x1916x1_S6x1916
def k_c_3 : IVec S_ 32 :=
  constantI S_ 32 0#32
def k_call4_v0 : IVec S_ 32 :=
  (id) (k_c_3)
def k_v14 (C : IVec S6x1920x8 32) : IVec S6x1920 32 :=
  ((fun x v => pad S6x1920 ![0, 4] ![0, 0] ![0, 0] x v Cert.KernelIdeal.Gen.pads_S6x1916_S6x1920_000_400 Cert.KernelIdeal.Gen.h_S_)) (k_v13 C) (k_call4_v0)
def k_v15 (C : IVec S6x1920x8 32) : IVec S6x1915x1 32 :=
  ((extractStridedSlice S6x1915x1 ![0, 0, 5] · Cert.KernelIdeal.Gen.slices_S6x1920x8_S6x1915x1_0_0_5)) C
def k_v16 (C : IVec S6x1920x8 32) : IVec S6x1915 32 :=
  shapeCast S6x1915 (k_v15 C) Cert.KernelIdeal.Gen.shapeCasts_S6x1915x1_S6x1915
def k_c_4 : IVec S_ 32 :=
  constantI S_ 32 0#32
def k_call5_v0 : IVec S_ 32 :=
  (id) (k_c_4)
def k_v17 (C : IVec S6x1920x8 32) : IVec S6x1920 32 :=
  ((fun x v => pad S6x1920 ![0, 5] ![0, 0] ![0, 0] x v Cert.KernelIdeal.Gen.pads_S6x1915_S6x1920_000_500 Cert.KernelIdeal.Gen.h_S_)) (k_v16 C) (k_call5_v0)
def k_v18 (C : IVec S6x1920x8 32) : IVec S6x1914x1 32 :=
  ((extractStridedSlice S6x1914x1 ![0, 0, 6] · Cert.KernelIdeal.Gen.slices_S6x1920x8_S6x1914x1_0_0_6)) C
def k_v19 (C : IVec S6x1920x8 32) : IVec S6x1914 32 :=
  shapeCast S6x1914 (k_v18 C) Cert.KernelIdeal.Gen.shapeCasts_S6x1914x1_S6x1914
def k_c_5 : IVec S_ 32 :=
  constantI S_ 32 0#32
def k_call6_v0 : IVec S_ 32 :=
  (id) (k_c_5)
def k_v20 (C : IVec S6x1920x8 32) : IVec S6x1920 32 :=
  ((fun x v => pad S6x1920 ![0, 6] ![0, 0] ![0, 0] x v Cert.KernelIdeal.Gen.pads_S6x1914_S6x1920_000_600 Cert.KernelIdeal.Gen.h_S_)) (k_v19 C) (k_call6_v0)
def k_v21 (C : IVec S6x1920x8 32) : IVec S6x1913x1 32 :=
  ((extractStridedSlice S6x1913x1 ![0, 0, 7] · Cert.KernelIdeal.Gen.slices_S6x1920x8_S6x1913x1_0_0_7)) C
def k_v22 (C : IVec S6x1920x8 32) : IVec S6x1913 32 :=
  shapeCast S6x1913 (k_v21 C) Cert.KernelIdeal.Gen.shapeCasts_S6x1913x1_S6x1913
def k_c_6 : IVec S_ 32 :=
  constantI S_ 32 0#32
def k_call7_v0 : IVec S_ 32 :=
  (id) (k_c_6)
def k_v23 (C : IVec S6x1920x8 32) : IVec S6x1920 32 :=
  ((fun x v => pad S6x1920 ![0, 7] ![0, 0] ![0, 0] x v Cert.KernelIdeal.Gen.pads_S6x1913_S6x1920_000_700 Cert.KernelIdeal.Gen.h_S_)) (k_v22 C) (k_call7_v0)
def k_v24 (C : IVec S6x1920x8 32) : IVec S6x1920x1 32 :=
  (broadcastInDim S6x1920x1 ![0, 1] Cert.KernelIdeal.Gen.bcast_S6x1920_S6x1920x1_0_1) (k_v2 C)
def k_v25 (C : IVec S6x1920x8 32) : IVec S6x1920x1 32 :=
  (broadcastInDim S6x1920x1 ![0, 1] Cert.KernelIdeal.Gen.bcast_S6x1920_S6x1920x1_0_1) (k_v5 C)
def k_v26 (C : IVec S6x1920x8 32) : IVec S6x1920x1 32 :=
  (broadcastInDim S6x1920x1 ![0, 1] Cert.KernelIdeal.Gen.bcast_S6x1920_S6x1920x1_0_1) (k_v8 C)
def k_v27 (C : IVec S6x1920x8 32) : IVec S6x1920x1 32 :=
  (broadcastInDim S6x1920x1 ![0, 1] Cert.KernelIdeal.Gen.bcast_S6x1920_S6x1920x1_0_1) (k_v11 C)
def k_v28 (C : IVec S6x1920x8 32) : IVec S6x1920x1 32 :=
  (broadcastInDim S6x1920x1 ![0, 1] Cert.KernelIdeal.Gen.bcast_S6x1920_S6x1920x1_0_1) (k_v14 C)
def k_v29 (C : IVec S6x1920x8 32) : IVec S6x1920x1 32 :=
  (broadcastInDim S6x1920x1 ![0, 1] Cert.KernelIdeal.Gen.bcast_S6x1920_S6x1920x1_0_1) (k_v17 C)
def k_v30 (C : IVec S6x1920x8 32) : IVec S6x1920x1 32 :=
  (broadcastInDim S6x1920x1 ![0, 1] Cert.KernelIdeal.Gen.bcast_S6x1920_S6x1920x1_0_1) (k_v20 C)
def k_v31 (C : IVec S6x1920x8 32) : IVec S6x1920x1 32 :=
  (broadcastInDim S6x1920x1 ![0, 1] Cert.KernelIdeal.Gen.bcast_S6x1920_S6x1920x1_0_1) (k_v23 C)
def k_v32 (C : IVec S6x1920x8 32) : IVec S6x1920x8 32 :=
  concatenate S6x1920x8 2 [⟨S6x1920x1, (k_v24 C)⟩, ⟨S6x1920x1, (k_v25 C)⟩, ⟨S6x1920x1, (k_v26 C)⟩, ⟨S6x1920x1, (k_v27 C)⟩, ⟨S6x1920x1, (k_v28 C)⟩, ⟨S6x1920x1, (k_v29 C)⟩, ⟨S6x1920x1, (k_v30 C)⟩, ⟨S6x1920x1, (k_v31 C)⟩] Cert.KernelIdeal.Gen.concatenates_S6x1920x1_S6x1920x1_S6x1920x1_S6x1920x1_S6x1920x1_S6x1920x1_S6x1920x1_S6x1920x1_S6x1920x8_d2
def k_v33 (C : IVec S6x1920x8 32) : IVec S11520x8 32 :=
  shapeCast S11520x8 (k_v32 C) Cert.KernelIdeal.Gen.shapeCasts_S6x1920x8_S11520x8
def k_v34 : IVec S8 32 :=
  iotaInDim S8 32 0
def k_v35 (L : IVec S6 32) : IVec S6x1 32 :=
  (broadcastInDim S6x1 ![0] Cert.KernelIdeal.Gen.bcast_S6_S6x1_0) L
def k_v36 : IVec S1x8 32 :=
  (broadcastInDim S1x8 ![1] Cert.KernelIdeal.Gen.bcast_S8_S1x8_1) (k_v34)
def k_c_7 : IVec S_ 32 :=
  constantI S_ 32 1920#32
def k_v37 : IVec S1x8 32 :=
  (broadcastInDim S1x8 ![] Cert.KernelIdeal.Gen.bcast_S_S1x8) (k_c_7)
def k_v38 : IVec S1x8 32 :=
  (subi) (k_v37) (k_v36)
def k_v39 (L : IVec S6 32) : IVec S6x8 32 :=
  (broadcastInDim S6x8 ![0, 1] Cert.KernelIdeal.Gen.bcast_S6x1_S6x8_0_1) (k_v35 L)
def k_v40 : IVec S6x8 32 :=
  (broadcastInDim S6x8 ![0, 1] Cert.KernelIdeal.Gen.bcast_S1x8_S6x8_0_1) (k_v38)
def k_v41 (L : IVec S6 32) : IVec S6x8 32 :=
  (minsi) (k_v39 L) (k_v40)
def k_c_8 : IVec S_ 32 :=
  constantI S_ 32 0#32
def k_call8_v0 : IVec S_ 32 :=
  (id) (k_c_8)
def k_call8_v1 : IVec S6x8 32 :=
  ((broadcastInDim S6x8 ![] Cert.KernelIdeal.Gen.bcast_S_S6x8)) (k_call8_v0)
def k_v42 (L : IVec S6 32) : IVec S6x8 32 :=
  (maxsi) (k_call8_v1) (k_v41 L)
def k_c_9 : IVec S_ 32 :=
  constantI S_ 32 0#32
def k_v43 (L : IVec S6 32) : IVec S8 32 :=
  ((fun x v => Host.reduce IntOp.addi x v Cert.KernelIdeal.Gen.reducesTo_S6x8_S8_d0 Cert.KernelIdeal.Gen.h_S_)) (k_v42 L) (k_c_9)
def k_v44 (L : IVec S6 32) : FVec Ideal S8 .f32 :=
  (sitofp .f32) (k_v43 L)
def k_cst : FVec Ideal S_ .f32 :=
  constant S_ .f32 0x00000000#32
def k_v45 : FVec Ideal S8 .f32 :=
  (broadcastInDim S8 ![] Cert.KernelIdeal.Gen.bcast_S_S8) (k_cst)
def k_v46 (L : IVec S6 32) : IVec S8 1 :=
  (cmpf .ogt) (k_v44 L) (k_v45)
def k_cst_10 : FVec Ideal S_ .f32 :=
  constant S_ .f32 0x3F800000#32
def k_call9_v0 : FVec Ideal S_ .f32 :=
  (id) (k_cst_10)
def k_call9_v1 : FVec Ideal S8 .f32 :=
  ((broadcastInDim S8 ![] Cert.KernelIdeal.Gen.bcast_S_S8)) (k_call9_v0)
def k_v47 (L : IVec S6 32) : FVec Ideal S8 .f32 :=
  (select) (k_v46 L) (k_v44 L) (k_call9_v1)
def k_v48 (Sc : FVec Ideal S8x2048 .f32) : FVec Ideal S8x1x2048 .f32 :=
  shapeCast S8x1x2048 Sc Cert.KernelIdeal.Gen.shapeCasts_S8x2048_S8x1x2048
def k_v50 (Q : FVec Ideal S8x128 .f32) : FVec Ideal S1x8 .f32 :=
  ((extractStridedSlice S1x8 ![0, 0] · Cert.KernelIdeal.Gen.slices_S8x128_S1x8_0_0)) Q
def k_v51 (Q : FVec Ideal S8x128 .f32) : FVec Ideal S8 .f32 :=
  shapeCast S8 (k_v50 Q) Cert.KernelIdeal.Gen.shapeCasts_S1x8_S8
def k_v52 (Q : FVec Ideal S8x128 .f32) (N : FVec Ideal S8 .f32) : FVec Ideal S8 .f32 :=
  (Host.divf) (k_v51 Q) N
def k_cst_11 : FVec Ideal S_ .f32 :=
  constant S_ .f32 0x00000000#32
def k_v53 (Q : FVec Ideal S8x128 .f32) (N : FVec Ideal S8 .f32) : FVec Ideal S_ .f32 :=
  ((fun x v => Host.reduceAdd x v Cert.KernelIdeal.Gen.reducesTo_S8_S_d0 Cert.KernelIdeal.Gen.h_S_)) (k_v52 Q N) (k_cst_11)
def k_cst_12 : FVec Ideal S_ .f32 :=
  constant S_ .f32 0x41000000#32
def k_v54 (Q : FVec Ideal S8x128 .f32) (N : FVec Ideal S8 .f32) : FVec Ideal S_ .f32 :=
  (Host.divf) (k_v53 Q N) (k_cst_12)
def k_v55 (A : FVec Ideal S11520x8 .f32) : FVec Ideal S6x1920x8 .f32 :=
  shapeCast S6x1920x8 A Cert.KernelIdeal.Gen.shapeCasts_S11520x8_S6x1920x8

/-- What the first host operations leave in `main_v2`. -/
theorem pre_2 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v2) = k_v2 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2]
  rfl

/-- What the first host operations leave in `main_v5`. -/
theorem pre_5 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v5) = k_v5 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5]
  rfl

/-- What the first host operations leave in `main_v8`. -/
theorem pre_8 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v8) = k_v8 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8]
  rfl

/-- What the first host operations leave in `main_v11`. -/
theorem pre_11 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v11) = k_v11 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11]
  rfl

/-- What the first host operations leave in `main_v14`. -/
theorem pre_14 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v14) = k_v14 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14]
  rfl

/-- What the first host operations leave in `main_v17`. -/
theorem pre_17 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v17) = k_v17 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14, k_v15, k_v16, k_c_4, k_call5_v0, k_v17]
  rfl

/-- What the first host operations leave in `main_v20`. -/
theorem pre_20 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v20) = k_v20 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14, k_v15, k_v16, k_c_4, k_call5_v0, k_v17, k_v18, k_v19, k_c_5, k_call6_v0, k_v20]
  rfl

/-- What the first host operations leave in `main_v23`. -/
theorem pre_23 (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15].flatten) U (Proc.devRef .tc main_v23) = k_v23 (U (Proc.devRef .tc main_arg3)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14, k_v15, k_v16, k_c_4, k_call5_v0, k_v17, k_v18, k_v19, k_c_5, k_call6_v0, k_v20, k_v21, k_v22, k_c_6, k_call7_v0, k_v23]
  rfl

/-- The columns of shifted codes put side by side. -/
def stack8 (x0 x1 x2 x3 x4 x5 x6 x7 : IVec S6x1920 32) : IVec S6x1920x8 32 :=
  concatenate S6x1920x8 2 [⟨S6x1920x1, (broadcastInDim S6x1920x1 ![0, 1] Cert.KernelIdeal.Gen.bcast_S6x1920_S6x1920x1_0_1 x0)⟩, ⟨S6x1920x1, (broadcastInDim S6x1920x1 ![0, 1] Cert.KernelIdeal.Gen.bcast_S6x1920_S6x1920x1_0_1 x1)⟩, ⟨S6x1920x1, (broadcastInDim S6x1920x1 ![0, 1] Cert.KernelIdeal.Gen.bcast_S6x1920_S6x1920x1_0_1 x2)⟩, ⟨S6x1920x1, (broadcastInDim S6x1920x1 ![0, 1] Cert.KernelIdeal.Gen.bcast_S6x1920_S6x1920x1_0_1 x3)⟩, ⟨S6x1920x1, (broadcastInDim S6x1920x1 ![0, 1] Cert.KernelIdeal.Gen.bcast_S6x1920_S6x1920x1_0_1 x4)⟩, ⟨S6x1920x1, (broadcastInDim S6x1920x1 ![0, 1] Cert.KernelIdeal.Gen.bcast_S6x1920_S6x1920x1_0_1 x5)⟩, ⟨S6x1920x1, (broadcastInDim S6x1920x1 ![0, 1] Cert.KernelIdeal.Gen.bcast_S6x1920_S6x1920x1_0_1 x6)⟩, ⟨S6x1920x1, (broadcastInDim S6x1920x1 ![0, 1] Cert.KernelIdeal.Gen.bcast_S6x1920_S6x1920x1_0_1 x7)⟩] Cert.KernelIdeal.Gen.concatenates_S6x1920x1_S6x1920x1_S6x1920x1_S6x1920x1_S6x1920x1_S6x1920x1_S6x1920x1_S6x1920x1_S6x1920x8_d2

/-- What the stacking operations leave in `main_v33`. -/
theorem pre_stack (U : Valuation τ sig (Elt Ideal)) :
    StableHlo.after ([hostOps0_16, hostOps0_17, hostOps0_18, hostOps0_19, hostOps0_20].flatten) U (Proc.devRef .tc main_v33) = shapeCast S11520x8 (stack8 (U (Proc.devRef .tc main_v2)) (U (Proc.devRef .tc main_v5)) (U (Proc.devRef .tc main_v8)) (U (Proc.devRef .tc main_v11)) (U (Proc.devRef .tc main_v14)) (U (Proc.devRef .tc main_v17)) (U (Proc.devRef .tc main_v20)) (U (Proc.devRef .tc main_v23))) Cert.KernelIdeal.Gen.shapeCasts_S6x1920x8_S11520x8 := by
  after_reads_simp
  rfl

/-- What the host operations leave in `main_v33`, from any contents before them. -/
theorem pre_codes (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20].flatten) U (Proc.devRef .tc main_v33) = k_v33 (U (Proc.devRef .tc main_arg3)) := by
  rw [show [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] = [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] ++ ([hostOps0_16, hostOps0_17, hostOps0_18, hostOps0_19, hostOps0_20] : List (List (HloOp τ sig (Elt Ideal)))) from rfl, List.flatten_append, StableHlo.after_append, pre_stack,
    pre_2, pre_5, pre_8, pre_11, pre_14, pre_17, pre_20, pre_23]
  rfl

/-- What the host operations leave in `main_v47`, from any contents before them. -/
theorem pre_count (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20].flatten) U (Proc.devRef .tc main_v47) = k_v47 (U (Proc.devRef .tc main_arg4)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14, k_v15, k_v16, k_c_4, k_call5_v0, k_v17, k_v18, k_v19, k_c_5, k_call6_v0, k_v20, k_v21, k_v22, k_c_6, k_call7_v0, k_v23, k_v24, k_v25, k_v26, k_v27, k_v28, k_v29, k_v30, k_v31, k_v32, k_v33, k_v34, k_v35, k_v36, k_c_7, k_v37, k_v38, k_v39, k_v40, k_v41, k_c_8, k_call8_v0, k_call8_v1, k_v42, k_c_9, k_v43, k_v44, k_cst, k_v45, k_v46, k_cst_10, k_call9_v0, k_call9_v1, k_v47, k_v48]
  try rfl

/-- What the host operations leave in `main_v48`, from any contents before them. -/
theorem pre_scales (U : Valuation τ sig (Elt Ideal)) :
    StableHlo.after ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20].flatten) U (Proc.devRef .tc main_v48) = k_v48 (U (Proc.devRef .tc main_arg2)) := by
  after_reads_simp
  try simp -implicitDefEqProofs only [StableHlo.TRef.toBuf, StableHlo.TRef.ofBuf, cast_cast, cast_eq]
  clean_types
  simp only [k_v0, k_v1, k_c, k_call0_v0, k_v2, k_v3, k_v4, k_c_0, k_call1_v0, k_v5, k_v6, k_v7, k_c_1, k_call2_v0, k_v8, k_v9, k_v10, k_c_2, k_call3_v0, k_v11, k_v12, k_v13, k_c_3, k_call4_v0, k_v14, k_v15, k_v16, k_c_4, k_call5_v0, k_v17, k_v18, k_v19, k_c_5, k_call6_v0, k_v20, k_v21, k_v22, k_c_6, k_call7_v0, k_v23, k_v24, k_v25, k_v26, k_v27, k_v28, k_v29, k_v30, k_v31, k_v32, k_v33, k_v34, k_v35, k_v36, k_c_7, k_v37, k_v38, k_v39, k_v40, k_v41, k_c_8, k_call8_v0, k_call8_v1, k_v42, k_c_9, k_v43, k_v44, k_cst, k_v45, k_v46, k_cst_10, k_call9_v0, k_call9_v1, k_v47, k_v48]
  try rfl

/-- What the host operations leave in `main_v54`, from any contents before them. -/
theorem tail_mean (U : Valuation τ sig (Elt Ideal)) :
    StableHlo.after ([hostOps1].flatten) U (Proc.devRef .tc main_v54) = k_v54 (U (Proc.devRef .tc main_v49_1)) (U (Proc.devRef .tc main_v47)) := by
  after_reads_simp
  try simp -implicitDefEqProofs only [StableHlo.TRef.toBuf, StableHlo.TRef.ofBuf, cast_cast, cast_eq]
  clean_types
  simp only [k_v50, k_v51, k_v52, k_cst_11, k_v53, k_cst_12, k_v54, k_v55]
  try rfl

/-- What the host operations leave in `main_v55`, from any contents before them. -/
theorem tail_loss (U : Valuation τ sig (Elt Ideal)) :
    StableHlo.after ([hostOps1].flatten) U (Proc.devRef .tc main_v55) = k_v55 (U (Proc.devRef .tc main_v49_0)) := by
  after_reads_simp
  try simp -implicitDefEqProofs only [StableHlo.TRef.toBuf, StableHlo.TRef.ofBuf, cast_cast, cast_eq]
  clean_types
  simp only [k_v50, k_v51, k_v52, k_cst_11, k_v53, k_cst_12, k_v54, k_v55]
  try rfl

end Cert.KernelIdeal.Ce

end
-- ==== Proof.Pure.lean ====
/- The scalar mathematics shared by the two programs: cross entropy of a row of 2048 logits, its split over four blocks of 512, the pick of the target's logit, and the mask of a frame. -/
module

public import Idealize.ShloMosaic.Lib.Pointwise
public import Idealize.ShloMosaic.Lib.WordCmp

@[expose] public section

set_option maxRecDepth 16384

noncomputable section

open Idealize.ShloMosaic

namespace Cert.Ce

/-- The largest logit of a row. -/
def topOf (z : Fin 2048 → EReal) : EReal := (Finset.univ : Finset (Fin 2048)).fold max (Ideal.ofBits .f32 4286578688#32) z
/-- The sum of the exponentials of a row, each less the largest. -/
def sumOf (z : Fin 2048 → EReal) : EReal := ∑ v, Ideal.exp (z v - topOf z)
/-- The cross entropy of a row at the target `g`. -/
def ceOf (z : Fin 2048 → EReal) (g : Fin 2048) : EReal := topOf z + Ideal.log (sumOf z) - z g

/-- The maximum over the four blocks is the maximum over the row. -/
theorem fold4 (b : EReal) (z : Fin 2048 → EReal) :
    max (max (max ((Finset.univ : Finset (Fin 512)).fold max b fun l => z ⟨l.val, by omega⟩)
      ((Finset.univ : Finset (Fin 512)).fold max b fun l => z ⟨512 + l.val, by omega⟩))
      ((Finset.univ : Finset (Fin 512)).fold max b fun l => z ⟨1024 + l.val, by omega⟩))
      ((Finset.univ : Finset (Fin 512)).fold max b fun l => z ⟨1536 + l.val, by omega⟩)
      = (Finset.univ : Finset (Fin 2048)).fold max b z := by
  refine eq_of_forall_ge_iff fun c => ?_
  simp only [max_le_iff, Finset.fold_max_le, Finset.mem_univ, true_imp_iff, forall_true_left]
  constructor
  · rintro ⟨⟨⟨⟨hb, h0⟩, -, h1⟩, -, h2⟩, -, h3⟩
    refine ⟨hb, fun v => ?_⟩
    by_cases a : v.val < 512
    · exact h0 ⟨v.val, a⟩
    by_cases b : v.val < 1024
    · have := h1 ⟨v.val - 512, by omega⟩
      rwa [show (⟨512 + (v.val - 512), by omega⟩ : Fin 2048) = v from Fin.ext (by simp only; omega)] at this
    by_cases d : v.val < 1536
    · have := h2 ⟨v.val - 1024, by omega⟩
      rwa [show (⟨1024 + (v.val - 1024), by omega⟩ : Fin 2048) = v from Fin.ext (by simp only; omega)] at this
    · have := h3 ⟨v.val - 1536, by omega⟩
      rwa [show (⟨1536 + (v.val - 1536), by omega⟩ : Fin 2048) = v from Fin.ext (by simp only; omega)] at this
  · rintro ⟨hb, h⟩
    exact ⟨⟨⟨⟨hb, fun _ => h _⟩, hb, fun _ => h _⟩, hb, fun _ => h _⟩, hb, fun _ => h _⟩

/-- The sum over the four blocks is the sum over the row. -/
theorem sum4 (f : Fin 2048 → EReal) :
    (∑ l : Fin 512, f ⟨l.val, by omega⟩) + (∑ l : Fin 512, f ⟨512 + l.val, by omega⟩)
      + (∑ l : Fin 512, f ⟨1024 + l.val, by omega⟩) + (∑ l : Fin 512, f ⟨1536 + l.val, by omega⟩) = ∑ v, f v := by
  rw [Fin.sum_univ_tiles 4 512 rfl f, Fin.sum_univ_four]
  refine congr_arg₂ _ (congr_arg₂ _ (congr_arg₂ _ ?_ ?_) ?_) ?_ <;>
    exact Finset.sum_congr rfl fun l _ => congr_arg f (Fin.ext (by simp))

theorem select_eq {α : Type} (l : ℕ) (T : BitVec 32) (hl : l < 4294967296) (a b : α) :
    Scalar.select (IntOp.cmpi .eq (BitVec.ofNat 32 l) T) a b = if l = T.toNat then a else b := by
  unfold Scalar.select IntOp.cmpi
  by_cases h : BitVec.ofNat 32 l = T
  · have h' : l = T.toNat := by rw [← h, BitVec.toNat_ofNat]; omega
    simp [h, ← h']
  · have h' : l ≠ T.toNat := fun e => h (by rw [e]; simp)
    have hb : (BitVec.ofNat 32 l == T) = false := by simpa using h
    rw [hb, if_neg h']; rfl

/-- The one-hot sum over the four blocks picks the target's logit. -/
theorem pick4 (z : Fin 2048 → EReal) (T : BitVec 32) (hT : T.toNat < 2048) :
    (∑ l : Fin 512, Scalar.select (IntOp.cmpi .eq (IntOp.addi (BitVec.ofNat 32 l.val) 0#32) T) (z ⟨l.val, by omega⟩) 0)
      + (∑ l : Fin 512, Scalar.select (IntOp.cmpi .eq (IntOp.addi (BitVec.ofNat 32 l.val) 512#32) T) (z ⟨512 + l.val, by omega⟩) 0)
      + (∑ l : Fin 512, Scalar.select (IntOp.cmpi .eq (IntOp.addi (BitVec.ofNat 32 l.val) 1024#32) T) (z ⟨1024 + l.val, by omega⟩) 0)
      + (∑ l : Fin 512, Scalar.select (IntOp.cmpi .eq (IntOp.addi (BitVec.ofNat 32 l.val) 1536#32) T) (z ⟨1536 + l.val, by omega⟩) 0)
      = z ⟨T.toNat, hT⟩ := by
  have e (o : ℕ) (l : Fin 512) (ho : o ≤ 1536) (a : EReal) :
      Scalar.select (IntOp.cmpi .eq (IntOp.addi (BitVec.ofNat 32 l.val) (BitVec.ofNat 32 o)) T) a 0 = if o + l.val = T.toNat then a else 0 := by
    rw [show IntOp.addi (BitVec.ofNat 32 l.val) (BitVec.ofNat 32 o) = BitVec.ofNat 32 (o + l.val) by
      rw [Nat.add_comm, BitVec.ofNat_add]; rfl]
    exact select_eq _ T (by omega) a 0
  have s := sum4 fun v => if v.val = T.toNat then z v else 0
  simp only [fun l => e 0 l (by omega), fun l => e 512 l (by omega), fun l => e 1024 l (by omega), fun l => e 1536 l (by omega)]
  simp only [Nat.zero_add]
  rw [s, Finset.sum_eq_single ⟨T.toNat, hT⟩]
  · simp
  · intro v _ hv
    exact if_neg fun h => hv (Fin.ext h)
  · intro h; exact absurd (Finset.mem_univ _) h

/-- The integer fold with one non-zero term is that term. -/
theorem foldi_eq {n : ℕ} (k : Fin n) (f : Fin n → BitVec 32) :
    ((Finset.univ : Finset (Fin n)).fold IntOp.addi 0#32 fun x => if x = k then f x else 0#32) = f k := by
  have h (s : Finset (Fin n)) : (s.fold IntOp.addi 0#32 fun x => if x = k then f x else 0#32) = if k ∈ s then f k else 0#32 := by
    classical
    induction s using Finset.induction_on with
    | empty => simp
    | insert a s ha ih =>
      rw [Finset.fold_insert ha, ih]
      by_cases h1 : a = k
      · subst h1; simp [ha, IntOp.addi]
      · have h2 : k ≠ a := fun e => h1 e.symm
        by_cases h3 : k ∈ s <;> simp [h1, h2, h3, IntOp.addi]
  simpa using h Finset.univ

/-- Whether the frame `t` of codebook `k` lies within the length `w`, `k` steps later than its index. -/
def mask (w : BitVec 32) (t k : ℕ) : BitVec 1 :=
  IntOp.andi (IntOp.cmpi .sge (IntOp.subi (BitVec.ofNat 32 t) (BitVec.ofNat 32 k)) 0#32) (IntOp.cmpi .slt (IntOp.subi (BitVec.ofNat 32 t) (BitVec.ofNat 32 k)) w)

theorem sub_toInt (t k : ℕ) (ht : t < 1920) (hk : k < 8) :
    (IntOp.subi (BitVec.ofNat 32 t) (BitVec.ofNat 32 k)).toInt = (t : ℤ) - k := by
  unfold IntOp.subi
  rw [BitVec.toInt_sub, WordCmp.toInt_ofNat_of_lt (by omega), WordCmp.toInt_ofNat_of_lt (by omega), Int.bmod_def]
  omega

theorem ofBool_and (a b : Bool) : (BitVec.ofBool a &&& BitVec.ofBool b = 1#1) ↔ (a = true ∧ b = true) := by
  cases a <;> cases b <;> decide

theorem mask_iff (w : BitVec 32) (t k : ℕ) (ht : t < 1920) (hk : k < 8) :
    mask w t k = 1#1 ↔ k ≤ t ∧ (t : ℤ) - k < w.toInt := by
  have e := sub_toInt t k ht hk
  unfold mask IntOp.andi IntOp.cmpi
  rw [ofBool_and]
  simp only [BitVec.sle_iff_toInt_le, BitVec.slt_iff_toInt_lt, e, BitVec.toInt_zero]
  omega

end Cert.Ce
-- ==== Proof.PureInt.lean ====
/- Integer facts shared by the two programs: the count of the frames a codebook keeps, index arithmetic at one frame, and folds of truth values. -/
module

public import proofs.«01_k».proof.Proof.Pure

@[expose] public section

set_option maxRecDepth 16384

noncomputable section

open Idealize.ShloMosaic Idealize.ShloMosaic.TcCoe Idealize.SL.Sem

namespace Cert.Ce

theorem toInt_maxsi (x y : BitVec 32) : (IntOp.maxsi x y).toInt = max x.toInt y.toInt := by
  unfold IntOp.maxsi
  simp only [BitVec.slt, BitVec.sle]
  split <;> simp_all <;> omega

theorem toInt_minsi (x y : BitVec 32) : (IntOp.minsi x y).toInt = min x.toInt y.toInt := by
  unfold IntOp.minsi
  simp only [BitVec.slt, BitVec.sle]
  split <;> simp_all <;> omega

/-- A fold of truth values is true exactly when every one is. -/
theorem fold_andi {ι : Type} (s : Finset ι) (f : ι → BitVec 1) :
    s.fold IntOp.andi 1#1 f = 1#1 ↔ ∀ x ∈ s, f x = 1#1 := by
  classical
  induction s using Finset.induction_on with
  | empty => simp
  | insert a s ha ih =>
    rw [Finset.fold_insert ha]
    have e (u v : BitVec 1) : IntOp.andi u v = 1#1 ↔ u = 1#1 ∧ v = 1#1 := by
      revert u v; decide
    rw [e, ih]
    simp [Finset.mem_insert]

/-- A fold of words under addition is the sum of their values, as a word. -/
theorem fold_addi {ι : Type} (s : Finset ι) (f : ι → BitVec 32) :
    s.fold IntOp.addi 0#32 f = BitVec.ofNat 32 (∑ x ∈ s, (f x).toNat) := by
  classical
  induction s using Finset.induction_on with
  | empty => simp
  | insert a s ha ih =>
    rw [Finset.fold_insert ha, ih, Finset.sum_insert ha]
    unfold IntOp.addi
    rw [BitVec.ofNat_add, BitVec.ofNat_toNat, BitVec.setWidth_eq]

theorem count_range (w : ℤ) (k n : ℕ) :
    (∑ t ∈ Finset.range n, if k ≤ t ∧ (t : ℤ) - k < w then 1 else 0) = (max 0 (min w ((n : ℤ) - k))).toNat := by
  induction n with
  | zero => simp
  | succ n ih =>
    rw [Finset.sum_range_succ, ih]
    split <;> omega

/-- The frames of one batch row that codebook `k` keeps number the row's length, cut to the last frame with a target. -/
theorem count_block (w : BitVec 32) (k : Fin 8) :
    (∑ t : Fin 1920, (BitVec.setWidth 32 (mask w t.val k.val)).toNat)
      = (IntOp.maxsi 0#32 (IntOp.minsi w (IntOp.subi 1920#32 (BitVec.ofNat 32 k.val)))).toNat := by
  have h (t : Fin 1920) : (BitVec.setWidth 32 (mask w t.val k.val)).toNat = if k.val ≤ t.val ∧ (t.val : ℤ) - k.val < w.toInt then 1 else 0 := by
    by_cases m : mask w t.val k.val = 1#1
    · rw [if_pos ((mask_iff w _ _ t.isLt k.isLt).mp m), m]; rfl
    · rw [if_neg fun q => m ((mask_iff w _ _ t.isLt k.isLt).mpr q)]
      have : mask w t.val k.val = 0#1 := by
        generalize mask w t.val k.val = u at m ⊢
        revert u; decide
      rw [this]; rfl
  simp only [h]
  rw [Fin.sum_univ_eq_sum_range (fun t : ℕ => if k.val ≤ t ∧ (t : ℤ) - k.val < w.toInt then 1 else 0) 1920, count_range]
  have e : (IntOp.subi 1920#32 (BitVec.ofNat 32 k.val)).toInt = 1920 - (k.val : ℤ) := by
    unfold IntOp.subi
    have q : (BitVec.ofNat 32 k.val).toInt = k.val := WordCmp.toInt_ofNat_of_lt (by omega)
    have z' : (1920#32 : BitVec 32).toInt = 1920 := rfl
    rw [BitVec.toInt_sub, q, z', Int.bmod_def]
    have := k.isLt
    simp
    omega
  have r := toInt_maxsi 0#32 (IntOp.minsi w (IntOp.subi 1920#32 (BitVec.ofNat 32 k.val)))
  rw [toInt_minsi, e] at r
  generalize IntOp.maxsi 0#32 (IntOp.minsi w (IntOp.subi 1920#32 (BitVec.ofNat 32 k.val))) = u at r ⊢
  have z : (0#32 : BitVec 32).toInt = 0 := rfl
  rw [z] at r
  have : u.toInt = (u.toNat : ℤ) := by
    rw [BitVec.toInt_eq_toNat_cond]
    split
    · rfl
    · rename_i q
      have := BitVec.toInt_eq_toNat_cond u
      rw [if_neg q] at this
      have := u.isLt
      omega
  omega

theorem toInt_lt (x : BitVec 32) (n : ℕ) (hn : n ≤ 2147483648) (hx : x.toNat < n) : x.toInt = x.toNat := by
  rw [BitVec.toInt_eq_toNat_cond, if_pos (by omega)]

/-- The clip of the frame less the codebook is that difference, cut at zero. -/
theorem clip_eq (t k : ℕ) (ht : t < 1920) (hk : k < 8) :
    IntOp.minsi 1919#32 (IntOp.maxsi 0#32 (IntOp.subi (BitVec.ofNat 32 t) (BitVec.ofNat 32 k))) = BitVec.ofNat 32 (t - k) := by
  apply BitVec.eq_of_toInt_eq
  rw [toInt_minsi, toInt_maxsi, sub_toInt t k ht hk]
  have q : (BitVec.ofNat 32 (t - k)).toInt = (t - k : ℕ) := WordCmp.toInt_ofNat_of_lt (by omega)
  have z : (0#32 : BitVec 32).toInt = 0 := rfl
  have z' : (1919#32 : BitVec 32).toInt = 1919 := rfl
  rw [q, z, z']
  omega

/-- An index that is not negative is not wrapped. -/
theorem wrap_eq (x d : BitVec 32) (hx : x.toNat < 2147483648) :
    Scalar.select (IntOp.cmpi .slt x 0#32) (IntOp.addi x d) x = x := by
  have e := toInt_lt x _ le_rfl hx
  unfold Scalar.select IntOp.cmpi
  have : x.slt 0#32 = false := by
    simp only [BitVec.slt, decide_eq_false_iff_not]
    have z : (0#32 : BitVec 32).toInt = 0 := rfl
    rw [z]; omega
  rw [this]; rfl

/-- An index in range passes the bounds test. -/
theorem inb_eq (x : BitVec 32) (M : ℕ) (hM : M < 2147483648) (hx : x.toNat ≤ M) :
    IntOp.andi (IntOp.cmpi .sge x 0#32) (IntOp.cmpi .sle x (BitVec.ofNat 32 M)) = 1#1 := by
  have e := toInt_lt x 2147483648 le_rfl (by omega)
  unfold IntOp.andi IntOp.cmpi
  refine (ofBool_and _ _).mpr ⟨?_, ?_⟩
  · have z : (0#32 : BitVec 32).toInt = 0 := rfl
    simp only [BitVec.sle, BitVec.slt, decide_eq_true_eq, z]
    omega
  · simp only [BitVec.sle, BitVec.slt, decide_eq_true_eq]
    rw [WordCmp.toInt_ofNat_of_lt hM]
    omega

/-- A word between 0 and 2047 as a signed number has a value below 2048. -/
theorem code_lt (x : BitVec 32) (h0 : IntOp.cmpi .sge x 0#32 = 1#1) (h1 : IntOp.cmpi .slt x 2048#32 = 1#1) : x.toNat < 2048 := by
  unfold IntOp.cmpi at h0 h1
  have b (c : Bool) : BitVec.ofBool c = 1#1 ↔ c = true := by revert c; decide
  rw [b] at h0 h1
  have z : (0#32 : BitVec 32).toInt = 0 := rfl
  have z' : (2048#32 : BitVec 32).toInt = 2048 := rfl
  simp only [BitVec.sle, BitVec.slt, decide_eq_true_eq, z, z'] at h0 h1
  have := BitVec.toInt_eq_toNat_cond x
  have := x.isLt
  split at * <;> omega

theorem len_le (x : BitVec 32) (h : IntOp.cmpi .sle x 2147483640#32 = 1#1) : x.toInt ≤ 2147483640 := by
  unfold IntOp.cmpi at h
  have b (c : Bool) : BitVec.ofBool c = 1#1 ↔ c = true := by revert c; decide
  rw [b] at h
  have z' : (2147483640#32 : BitVec 32).toInt = 2147483640 := rfl
  simpa only [BitVec.sle, BitVec.slt, decide_eq_true_eq, z'] using h

end Cert.Ce
-- ==== Proof.IHostVal.lean ====
/- The kernel program's host operations at an index: the delayed targets, the number of frames kept, and the two results from the call's arrays. -/
module

public import proofs.«01_k».proof.Proof.IHost
public import proofs.«01_k».proof.Proof.PureInt
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.KernelIdeal.Ce
open Cert.KernelIdeal Cert.KernelIdeal.Gen Cert.Ce

section
variable (Sc : FVec Ideal S8x2048 .f32) (C : IVec S6x1920x8 32) (L : IVec S6 32)  (A : FVec Ideal S11520x8 .f32) (Q : FVec Ideal S8x128 .f32) (N : FVec Ideal S8 .f32)
  (b : Fin 6) (t : Fin 1920) (k : Fin 8) (v : Fin 2048)
theorem v48_at : k_v48 Sc (ix3 k 0 v) = Sc (ix2 k v) := by
  pointwise [k_v48]
theorem v55_at : k_v55 A (ix3 b t k) = A (ix2 (⟨b.val * 1920 + t.val, by omega⟩ : Fin 11520) k) := by
  pointwise [k_v55]
theorem v54_at (j : S_.Idx) : k_v54 Q N j
    = Ideal.div (∑ k : Fin 8, Ideal.div (Q (ix2 0 (⟨k.val, by omega⟩ : Fin 128))) (N (ix1 k))) (Ideal.ofBits .f32 1090519040#32) := by
  pointwise [k_v54, k_v53, k_v52, k_v51, k_v50, k_cst_11, k_cst_12]
theorem v33_at : k_v33 C (ix2 (⟨b.val * 1920 + t.val, by omega⟩ : Fin 11520) k) = k_v32 C (ix3 b t k) := by
  pointwise [k_v33]

/-- The target of a frame is a codebook's delay back, and zero before the first. -/
def back : BitVec 32 := if h : k.val ≤ t.val then C (ix3 b (⟨t.val - k.val, by omega⟩ : Fin 1920) k) else 0#32

theorem col0 : k_v24 C (ix3 b t 0) = back C b t (0 : Fin 8) := by
  pointwise [k_v24, k_v2, k_v1, k_v0, k_call0_v0, k_c]
  unfold back
  rw [dif_pos (show (0 : Fin 8).val ≤ t.val from Nat.zero_le _)]
  rfl
theorem col1 : k_v25 C (ix3 b t 0) = back C b t (1 : Fin 8) := by
  pointwise [k_v25, k_v5, k_v4, k_v3, k_call1_v0, k_c_0]
  unfold back
  by_cases h : 1 ≤ t.val
  · rw [dif_pos ⟨h, by omega⟩, dif_pos (show (1 : Fin 8).val ≤ t.val from h)]
    rfl
  · rw [dif_neg (fun q => h q.1), dif_neg (show ¬ (1 : Fin 8).val ≤ t.val from h)]
    rfl
theorem col2 : k_v26 C (ix3 b t 0) = back C b t (2 : Fin 8) := by
  pointwise [k_v26, k_v8, k_v7, k_v6, k_call2_v0, k_c_1]
  unfold back
  by_cases h : 2 ≤ t.val
  · rw [dif_pos ⟨h, by omega⟩, dif_pos (show (2 : Fin 8).val ≤ t.val from h)]
    rfl
  · rw [dif_neg (fun q => h q.1), dif_neg (show ¬ (2 : Fin 8).val ≤ t.val from h)]
    rfl
theorem col3 : k_v27 C (ix3 b t 0) = back C b t (3 : Fin 8) := by
  pointwise [k_v27, k_v11, k_v10, k_v9, k_call3_v0, k_c_2]
  unfold back
  by_cases h : 3 ≤ t.val
  · rw [dif_pos ⟨h, by omega⟩, dif_pos (show (3 : Fin 8).val ≤ t.val from h)]
    rfl
  · rw [dif_neg (fun q => h q.1), dif_neg (show ¬ (3 : Fin 8).val ≤ t.val from h)]
    rfl
theorem col4 : k_v28 C (ix3 b t 0) = back C b t (4 : Fin 8) := by
  pointwise [k_v28, k_v14, k_v13, k_v12, k_call4_v0, k_c_3]
  unfold back
  by_cases h : 4 ≤ t.val
  · rw [dif_pos ⟨h, by omega⟩, dif_pos (show (4 : Fin 8).val ≤ t.val from h)]
    rfl
  · rw [dif_neg (fun q => h q.1), dif_neg (show ¬ (4 : Fin 8).val ≤ t.val from h)]
    rfl
theorem col5 : k_v29 C (ix3 b t 0) = back C b t (5 : Fin 8) := by
  pointwise [k_v29, k_v17, k_v16, k_v15, k_call5_v0, k_c_4]
  unfold back
  by_cases h : 5 ≤ t.val
  · rw [dif_pos ⟨h, by omega⟩, dif_pos (show (5 : Fin 8).val ≤ t.val from h)]
    rfl
  · rw [dif_neg (fun q => h q.1), dif_neg (show ¬ (5 : Fin 8).val ≤ t.val from h)]
    rfl
theorem col6 : k_v30 C (ix3 b t 0) = back C b t (6 : Fin 8) := by
  pointwise [k_v30, k_v20, k_v19, k_v18, k_call6_v0, k_c_5]
  unfold back
  by_cases h : 6 ≤ t.val
  · rw [dif_pos ⟨h, by omega⟩, dif_pos (show (6 : Fin 8).val ≤ t.val from h)]
    rfl
  · rw [dif_neg (fun q => h q.1), dif_neg (show ¬ (6 : Fin 8).val ≤ t.val from h)]
    rfl
theorem col7 : k_v31 C (ix3 b t 0) = back C b t (7 : Fin 8) := by
  pointwise [k_v31, k_v23, k_v22, k_v21, k_call7_v0, k_c_6]
  unfold back
  by_cases h : 7 ≤ t.val
  · rw [dif_pos ⟨h, by omega⟩, dif_pos (show (7 : Fin 8).val ≤ t.val from h)]
    rfl
  · rw [dif_neg (fun q => h q.1), dif_neg (show ¬ (7 : Fin 8).val ≤ t.val from h)]
    rfl

theorem v32_at : k_v32 C (ix3 b t k) = back C b t k := by
  pointwise [k_v32]
  fin_vals k with hk
  · obtain rfl : k = (0 : Fin 8) := Fin.ext hk
    exact col0 C b t
  · obtain rfl : k = (1 : Fin 8) := Fin.ext hk
    exact col1 C b t
  · obtain rfl : k = (2 : Fin 8) := Fin.ext hk
    exact col2 C b t
  · obtain rfl : k = (3 : Fin 8) := Fin.ext hk
    exact col3 C b t
  · obtain rfl : k = (4 : Fin 8) := Fin.ext hk
    exact col4 C b t
  · obtain rfl : k = (5 : Fin 8) := Fin.ext hk
    exact col5 C b t
  · obtain rfl : k = (6 : Fin 8) := Fin.ext hk
    exact col6 C b t
  · obtain rfl : k = (7 : Fin 8) := Fin.ext hk
    exact col7 C b t

theorem v43_at : k_v43 L (ix1 k) = BitVec.ofNat 32 (∑ b : Fin 6, (IntOp.maxsi 0#32 (IntOp.minsi (L (ix1 b)) (IntOp.subi 1920#32 (BitVec.ofNat 32 k.val)))).toNat) := by
  pointwise [k_v43, k_v42, k_v41, k_v40, k_v39, k_v38, k_v37, k_v36, k_v35, k_v34, k_c_7, k_c_8, k_c_9, k_call8_v0, k_call8_v1]
  exact fold_addi _ _
theorem v47_at : k_v47 L (ix1 k) = if (0 : EReal) < FloatOps.sitofp (F := Ideal) .f32 (k_v43 L (ix1 k)) then FloatOps.sitofp (F := Ideal) .f32 (k_v43 L (ix1 k)) else 1 := by
  pointwise [k_v47, k_v46, k_v45, k_v44, k_cst, k_cst_10, k_call9_v0, k_call9_v1]
  show (if _ then _ else Ideal.ofBits .f32 1065353216#32) = _
  pointwise []
end
end Cert.KernelIdeal.Ce
-- ==== Proof.IPay.lean ====
/- What the call's body computes at one grid point, entry by entry over the reals: the row of logits, its cross entropy at the target, and the two output blocks after the point. -/
module

public import proofs.«01_k».proof.Proof.IRun
public import proofs.«01_k».proof.Proof.Pure
public import Idealize.ShloMosaic.Lib.Pointwise

@[expose] public section

set_option maxRecDepth 16384

noncomputable section

open Idealize.ShloMosaic Idealize.ShloMosaic.TcCoe Idealize.SL.Sem

namespace Cert.KernelIdeal.Ce

open Cert.KernelIdeal Cert.KernelIdeal.Gen Cert.Ce

/-- A target code as a position of a row of 2048. -/
def tgt (c : BitVec 32) : Fin 2048 := ⟨c.toNat % 2048, by omega⟩

/-- Row `r` of the tile's logits. -/
def zblk (x0 : Vec Ideal S384x4096 .bf16) (x1 : Vec Ideal S1x4096x2048 .fp8e4m3) (x2 : Vec Ideal S1x1x2048 .f32) (r : Fin 384) (v : Fin 2048) : EReal :=
  (∑ d : Fin 4096, x0 (ix2 r d) * x1 (ix3 0 d v)) * x2 (ix3 0 0 v)

/-- The masked loss of row `r` of the tile. -/
def rowval (w : BitVec 32) (t0 k : ℕ) (c : BitVec 32) (x0 : Vec Ideal S384x4096 .bf16) (x1 : Vec Ideal S1x4096x2048 .fp8e4m3) (x2 : Vec Ideal S1x1x2048 .f32) (r : Fin 384) : EReal :=
  if mask w (t0 + r.val) k = 1#1 then ceOf (zblk x0 x1 x2 r) (tgt c) else 0

theorem coord0 (i : grid0.Coords) : (i 0).val < 30 := (i 0).isLt
theorem coord1 (i : grid0.Coords) : (i 1).val < 8 := (i 1).isLt

/-- The tile's first frame as a function of the first grid coordinate. -/
def t0w (a : ℕ) : BitVec 32 :=
  let arg0 : BitVec 32 := BitVec.ofNat 32 a
  let v17 : BitVec 1 := Scalar.cmpi .eq 5#32 0#32
  let v18 : BitVec 32 := Scalar.select v17 1#32 5#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  Scalar.muli v26 384#32

theorem t0w_eq : ∀ a : Fin 30, t0w a.val = BitVec.ofNat 32 (a.val % 5 * 384) := by decide +kernel

theorem ceT0_eq (i : grid0.Coords) : ceT0 i = BitVec.ofNat 32 ((i 0).val % 5 * 384) := t0w_eq ⟨(i 0).val, coord0 i⟩

/-- A tile that is skipped has no frame within the length. -/
theorem skipped (i : grid0.Coords) (w : BitVec 32) (hw : w.toInt ≤ 2147483640) (h : ¬ k0_cond3 i w = 1#1) (r : Fin 384) :
    ¬ mask w ((i 0).val % 5 * 384 + r.val) (i 1).val = 1#1 := by
  have h0 := coord0 i
  have h1 := coord1 i
  rw [mask_iff _ _ _ (by omega) h1]
  rintro ⟨a, b⟩
  apply h
  have e : k0_cond3 i w = Scalar.cmpi .ne (Scalar.extui (Scalar.andi (Scalar.cmpi .sgt w 0#32) (Scalar.cmpi .slt (ceT0 i) (Scalar.subi (Scalar.addi w 8#32) 1#32))) : BitVec 32) 0#32 := rfl
  rw [e, ceT0_eq]
  have l : (Scalar.subi (Scalar.addi w 8#32) 1#32).toInt = w.toInt + 7 := by
    show (w + 8#32 - 1#32).toInt = _
    rw [BitVec.toInt_sub, BitVec.toInt_add, show (8#32).toInt = 8 from rfl, show (1#32).toInt = 1 from rfl]
    simp only [Int.bmod_def]; omega
  have c1 : Scalar.cmpi .sgt w 0#32 = 1#1 := by
    show BitVec.ofBool (BitVec.slt 0#32 w) = 1#1
    rw [show BitVec.slt 0#32 w = true by rw [BitVec.slt_iff_toInt_lt, BitVec.toInt_zero]; omega]; rfl
  have c2 : Scalar.cmpi .slt (BitVec.ofNat 32 ((i 0).val % 5 * 384)) (Scalar.subi (Scalar.addi w 8#32) 1#32) = 1#1 := by
    show BitVec.ofBool (BitVec.slt _ _) = 1#1
    rw [show BitVec.slt (BitVec.ofNat 32 ((i 0).val % 5 * 384)) (Scalar.subi (Scalar.addi w 8#32) 1#32) = true by
      rw [BitVec.slt_iff_toInt_lt, l, WordCmp.toInt_ofNat_of_lt (by omega)]; omega]; rfl
  rw [c1, c2]; rfl

section

variable (i : grid0.Coords) (w : BitVec 32) (x0 : Vec Ideal S384x4096 .bf16) (x1 : Vec Ideal S1x4096x2048 .fp8e4m3) (x2 : Vec Ideal S1x1x2048 .f32) (x3 : Vec Ideal S384x8 .i32)

theorem z0_at (r : Fin 384) (l : Fin 512) : ceZ0 x0 x1 x2 (ix2 r l) = zblk x0 x1 x2 r ⟨l.val, by omega⟩ := by
  pointwise [ceZ0, k0_pay6, ceX, ceW0, ceS0, zblk]
theorem z1_at (r : Fin 384) (l : Fin 512) : ceZ1 x0 x1 x2 (ix2 r l) = zblk x0 x1 x2 r ⟨512 + l.val, by omega⟩ := by
  pointwise [ceZ1, k0_pay7, ceX, ceW1, ceS1, zblk]
theorem z2_at (r : Fin 384) (l : Fin 512) : ceZ2 x0 x1 x2 (ix2 r l) = zblk x0 x1 x2 r ⟨1024 + l.val, by omega⟩ := by
  pointwise [ceZ2, ceY2, k0_pay8, k0_pay9, ceX, ceW2, ceS2, zblk]
theorem z3_at (r : Fin 384) (l : Fin 512) : ceZ3 x0 x1 x2 (ix2 r l) = zblk x0 x1 x2 r ⟨1536 + l.val, by omega⟩ := by
  pointwise [ceZ3, k0_pay10, ceX, ceW3, ceS3, zblk]

theorem max_at (r : Fin 384) : ceMax x0 x1 x2 (ix2 r 0) = topOf (zblk x0 x1 x2 r) := by
  have e : ceMax x0 x1 x2 (ix2 r 0)
    = max (max (max ((Finset.univ : Finset (Fin 512)).fold max (Ideal.ofBits .f32 4286578688#32) fun l => ceZ0 x0 x1 x2 (ix2 r l))
      ((Finset.univ : Finset (Fin 512)).fold max (Ideal.ofBits .f32 4286578688#32) fun l => ceZ1 x0 x1 x2 (ix2 r l)))
      ((Finset.univ : Finset (Fin 512)).fold max (Ideal.ofBits .f32 4286578688#32) fun l => ceZ2 x0 x1 x2 (ix2 r l)))
      ((Finset.univ : Finset (Fin 512)).fold max (Ideal.ofBits .f32 4286578688#32) fun l => ceZ3 x0 x1 x2 (ix2 r l)) := by
    unfold ceMax ceZ2 ceZ3
    pointwise [k0_pay11]
  rw [e]
  simp only [z0_at, z1_at, z2_at, z3_at]
  exact fold4 _ _

theorem sum_at (r : Fin 384) : ceSum x0 x1 x2 (ix2 r 0) = sumOf (zblk x0 x1 x2 r) := by
  have e : ceSum x0 x1 x2 (ix2 r 0)
    = (∑ l : Fin 512, Ideal.exp (ceZ0 x0 x1 x2 (ix2 r l) - ceMax x0 x1 x2 (ix2 r 0))) + (∑ l : Fin 512, Ideal.exp (ceZ1 x0 x1 x2 (ix2 r l) - ceMax x0 x1 x2 (ix2 r 0)))
      + (∑ l : Fin 512, Ideal.exp (ceZ2 x0 x1 x2 (ix2 r l) - ceMax x0 x1 x2 (ix2 r 0))) + (∑ l : Fin 512, Ideal.exp (ceZ3 x0 x1 x2 (ix2 r l) - ceMax x0 x1 x2 (ix2 r 0))) := by
    unfold ceSum ceMax
    pointwise [k0_pay14, k0_pay12]
  rw [e]
  simp only [z0_at, z1_at, z2_at, z3_at, max_at]
  exact sum4 fun v => Ideal.exp (zblk x0 x1 x2 r v - topOf (zblk x0 x1 x2 r))

theorem tgt_at (r : Fin 384) : ceTgt (F := Ideal) i x3 (ix2 r 0) = x3 (ix2 r (⟨(i 1).val, coord1 i⟩ : Fin 8)) := by
  have e : ceTgt (F := Ideal) i x3 (ix2 r 0)
    = (Finset.univ : Finset (Fin 8)).fold IntOp.addi 0#32 fun x => Scalar.select (IntOp.cmpi .eq (BitVec.ofNat 32 x.val) (BitVec.ofNat 32 (i 1).val)) (x3 (ix2 r x)) 0#32 := by
    unfold ceTgt ceC
    pointwise [k0_pay5]
  rw [e]
  have h1 := coord1 i
  have h (x : Fin 8) : Scalar.select (IntOp.cmpi .eq (BitVec.ofNat 32 x.val) (BitVec.ofNat 32 (i 1).val)) (x3 (ix2 r x)) 0#32
      = if x = (⟨(i 1).val, h1⟩ : Fin 8) then x3 (ix2 r x) else 0#32 := by
    rw [select_eq _ _ (by omega)]
    refine if_congr ?_ rfl rfl
    rw [Fin.ext_iff, BitVec.toNat_ofNat, Nat.mod_eq_of_lt (by omega)]
  simp only [h]
  exact foldi_eq (⟨(i 1).val, h1⟩ : Fin 8) fun x => x3 (ix2 r x)

theorem zt_at (r : Fin 384) (hc : (x3 (ix2 r (⟨(i 1).val, coord1 i⟩ : Fin 8)) : BitVec 32).toNat < 2048) :
    ceZt i x0 x1 x2 x3 (ix2 r 0) = zblk x0 x1 x2 r (tgt (x3 (ix2 r (⟨(i 1).val, coord1 i⟩ : Fin 8)))) := by
  have e : ceZt i x0 x1 x2 x3 (ix2 r 0)
    = (∑ l : Fin 512, Scalar.select (IntOp.cmpi .eq (IntOp.addi (BitVec.ofNat 32 l.val) 0#32) (ceTgt (F := Ideal) i x3 (ix2 r 0))) (ceZ0 x0 x1 x2 (ix2 r l)) 0)
      + (∑ l : Fin 512, Scalar.select (IntOp.cmpi .eq (IntOp.addi (BitVec.ofNat 32 l.val) 512#32) (ceTgt (F := Ideal) i x3 (ix2 r 0))) (ceZ1 x0 x1 x2 (ix2 r l)) 0)
      + (∑ l : Fin 512, Scalar.select (IntOp.cmpi .eq (IntOp.addi (BitVec.ofNat 32 l.val) 1024#32) (ceTgt (F := Ideal) i x3 (ix2 r 0))) (ceZ2 x0 x1 x2 (ix2 r l)) 0)
      + (∑ l : Fin 512, Scalar.select (IntOp.cmpi .eq (IntOp.addi (BitVec.ofNat 32 l.val) 1536#32) (ceTgt (F := Ideal) i x3 (ix2 r 0))) (ceZ3 x0 x1 x2 (ix2 r l)) 0) := by
    unfold ceZt
    pointwise [k0_pay15, k0_pay13]
  rw [e, tgt_at]
  simp only [z0_at, z1_at, z2_at, z3_at]
  refine (pick4 (zblk x0 x1 x2 r) _ hc).trans (congr_arg _ (Fin.ext ?_))
  exact (Nat.mod_eq_of_lt hc).symm

theorem pay2_at (hc : ∀ r : Fin 384, (x3 (ix2 r (⟨(i 1).val, coord1 i⟩ : Fin 8)) : BitVec 32).toNat < 2048) (r : Fin 384) :
    k0_pay2 (BitVec.ofNat 32 (i 1).val) (ceT0 i) w (ceMax x0 x1 x2) (ceSum x0 x1 x2) (ceZt i x0 x1 x2 x3) (ix2 r 0)
      = rowval w ((i 0).val % 5 * 384) (i 1).val (x3 (ix2 r (⟨(i 1).val, coord1 i⟩ : Fin 8))) x0 x1 x2 r := by
  have e (a b w : BitVec 32) (m s z : FVec Ideal S384x1 .f32) : k0_pay2 a b w m s z (ix2 r 0)
    = Scalar.select (IntOp.andi (IntOp.cmpi .sge (IntOp.subi (IntOp.addi b (BitVec.ofNat 32 r.val)) a) 0#32) (IntOp.cmpi .slt (IntOp.subi (IntOp.addi b (BitVec.ofNat 32 r.val)) a) w))
      (m (ix2 r 0) + Ideal.log (s (ix2 r 0)) - z (ix2 r 0)) 0 := by
    pointwise [k0_pay2]
  rw [e, max_at, sum_at, zt_at i x0 x1 x2 x3 r (hc r), ceT0_eq,
    show IntOp.addi (BitVec.ofNat 32 ((i 0).val % 5 * 384)) (BitVec.ofNat 32 r.val) = BitVec.ofNat 32 ((i 0).val % 5 * 384 + r.val) from (BitVec.ofNat_add _ _).symm]
  rfl

/-- The block of losses after the point. -/
theorem ceLoss_at (hw : w.toInt ≤ 2147483640) (hc : ∀ r : Fin 384, (x3 (ix2 r (⟨(i 1).val, coord1 i⟩ : Fin 8)) : BitVec 32).toNat < 2048)
    (acc : Vec Ideal S384x8 .f32) (r : Fin 384) (l : Fin 8) (h0 : l.val = (i 1).val → acc (ix2 r l) = 0) :
    ceLoss (F := Ideal) i w x0 x1 x2 x3 acc (ix2 r l)
      = if l.val = (i 1).val then rowval w ((i 0).val % 5 * 384) (i 1).val (x3 (ix2 r l)) x0 x1 x2 r else acc (ix2 r l) := by
  unfold ceLoss
  have h1 := coord1 i
  split
  · have e (a b w : BitVec 32) (m s z : FVec Ideal S384x1 .f32) : k0_pay3 (F := Ideal) a b w m s z acc (ix2 r l)
        = Scalar.select (IntOp.cmpi .eq (BitVec.ofNat 32 l.val) a) (k0_pay2 a b w m s z (ix2 r 0)) (acc (ix2 r l)) := by
      pointwise [k0_pay3]
    rw [e, pay2_at i w x0 x1 x2 x3 hc, select_eq _ _ (by omega), BitVec.toNat_ofNat, Nat.mod_eq_of_lt (by omega)]
    by_cases h : l.val = (i 1).val
    · have : (⟨(i 1).val, h1⟩ : Fin 8) = l := Fin.ext h.symm
      rw [if_pos h, if_pos h, this]
    · rw [if_neg h, if_neg h]
  · rename_i hl
    by_cases h : l.val = (i 1).val
    · rw [if_pos h, h0 h]; unfold rowval; rw [if_neg (skipped i w hw hl r)]
    · rw [if_neg h]

/-- The block of sums after the point. -/
theorem ceSums_at (hw : w.toInt ≤ 2147483640) (hc : ∀ r : Fin 384, (x3 (ix2 r (⟨(i 1).val, coord1 i⟩ : Fin 8)) : BitVec 32).toNat < 2048)
    (acc : Vec Ideal S8x128 .f32) (q : Fin 8) (l : Fin 128) :
    ceSums (F := Ideal) i w x0 x1 x2 x3 acc (ix2 q l)
      = acc (ix2 q l) + if l.val = (i 1).val then ∑ r : Fin 384, rowval w ((i 0).val % 5 * 384) (i 1).val (x3 (ix2 r (⟨(i 1).val, coord1 i⟩ : Fin 8))) x0 x1 x2 r else 0 := by
  unfold ceSums
  have h1 := coord1 i
  split
  · have e (a b w : BitVec 32) (m s z : FVec Ideal S384x1 .f32) : k0_pay4 (F := Ideal) a b w m s z acc (ix2 q l)
        = acc (ix2 q l) + Scalar.select (IntOp.cmpi .eq (BitVec.ofNat 32 l.val) a) (∑ r : Fin 384, ∑ _u : Fin 1, k0_pay2 a b w m s z (ix2 r 0)) 0 := by
      pointwise [k0_pay4]
    rw [e, select_eq _ _ (by omega), BitVec.toNat_ofNat, Nat.mod_eq_of_lt (by omega)]
    simp only [pay2_at i w x0 x1 x2 x3 hc, Finset.univ_unique, Finset.sum_const, Finset.card_singleton, one_smul]
  · rename_i hl
    have z : (∑ r : Fin 384, rowval w ((i 0).val % 5 * 384) (i 1).val (x3 (ix2 r (⟨(i 1).val, coord1 i⟩ : Fin 8))) x0 x1 x2 r) = 0 :=
      Finset.sum_eq_zero fun r _ => if_neg (skipped i w hw hl r)
    rw [z, ite_self, add_zero]

end

end Cert.KernelIdeal.Ce
-- ==== Proof.IVal.lean ====
/- What the call leaves in its two result arrays, entry by entry over the reals: the masked losses, and their sums per codebook. -/
module

public import proofs.«01_k».proof.Proof.IFrame
public import proofs.«01_k».proof.Proof.IPay
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Ce

open Cert.KernelIdeal Cert.KernelIdeal.Gen Cert.Ce

/-- Row `n` of the logits of codebook `k`. -/
def zrow (X : Vec Ideal S11520x4096 .bf16) (W : Vec Ideal S8x4096x2048 .fp8e4m3) (S3 : Vec Ideal S8x1x2048 .f32) (n : Fin 11520) (k : Fin 8) (v : Fin 2048) : EReal :=
  (∑ d : Fin 4096, X (ix2 n d) * W (ix3 k d v)) * S3 (ix3 k 0 v)

/-- The masked loss of row `n` and codebook `k`, the targets `D` given row by row. -/
def lossAt (X : Vec Ideal S11520x4096 .bf16) (W : Vec Ideal S8x4096x2048 .fp8e4m3) (S3 : Vec Ideal S8x1x2048 .f32) (D : Vec Ideal S11520x8 .i32) (L : Vec Ideal S6 .i32) (n : Fin 11520) (k : Fin 8) : EReal :=
  if mask (L (ix1 (⟨n.val / 1920, by omega⟩ : Fin 6))) (n.val % 1920) k.val = 1#1 then ceOf (zrow X W S3 n k) (tgt (D (ix2 n k))) else 0

section

variable (m : (ℓ : Loc nD τ sig) → Buf (Elt Ideal) ℓ)

theorem crd0 (t : Fin grid0.N) : (grid0.coords t 0).val = t.val / 8 := by
  have ht : t.val < 240 := Nat.lt_of_lt_of_eq t.isLt N_0
  have e0 : (grid0.coords t 0).val = t.val / 8 % 30 := Pipeline.Grid.coords_val t 0 (by decide) rfl
  omega
theorem crd1 (t : Fin grid0.N) : (grid0.coords t 1).val = t.val % 8 := by
  have e1 : (grid0.coords t 1).val = t.val / 1 % 8 := Pipeline.Grid.coords_val t 1 (by decide) rfl
  omega
theorem lt240 (hO : Ok m) (t : Fin (cfgM m hO).N) : t.val < 240 := Nat.lt_of_lt_of_eq t.isLt N_0

theorem tr0 (t : Fin grid0.N) : (BitVec.ofNat 32 (grid0.coords t 0).val).toNat = t.val / 8 := by
  have ht : t.val < 240 := Nat.lt_of_lt_of_eq t.isLt N_0
  rw [crd0, BitVec.toNat_ofNat, Nat.mod_eq_of_lt (by omega)]
theorem tr1 (t : Fin grid0.N) : (BitVec.ofNat 32 (grid0.coords t 1).val).toNat = t.val % 8 := by
  rw [crd1, BitVec.toNat_ofNat, Nat.mod_eq_of_lt (by omega)]
theorem off1 : ∀ t : Fin grid0.N, k0_off1 (grid0.coords t) 0 = t.val / 40 := by decide +kernel

/-- Row `r` of point `s`'s tile, as a row of the whole arrays. -/
def rowOf (s : ℕ) (r : Fin 384) : Fin 11520 := ⟨(s / 8 * 384 + r.val) % 11520, by omega⟩
/-- Point `s`'s codebook. -/
def bookOf (s : ℕ) : Fin 8 := ⟨s % 8, by omega⟩

theorem rowOf_val (s : ℕ) (h : s < 240) (r : Fin 384) : (rowOf s r).val = s / 8 * 384 + r.val := Nat.mod_eq_of_lt (by omega)

theorem blk0_at (hO : Ok m) (c : Dev nD) (t : Fin (cfgM m hO).N) (r : Fin 384) (d : Fin 4096) :
    (iblk m hO c 0 t : Vec Ideal S384x4096 .bf16) (ix2 r d) = (V m c main_arg0 : Vec Ideal S11520x4096 .bf16) (ix2 (rowOf t.val r) d) := by
  unfold iblk
  refine congrArg (V m c main_arg0 : Vec Ideal S11520x4096 .bf16) (funext fun (a : Fin 2) => Fin.ext ?_)
  match a with
  | 0 => show (BitVec.ofNat 32 (grid0.coords t 0).val).toNat * 384 + 1 * r.val = (rowOf t.val r).val
         rw [tr0, Nat.one_mul, rowOf_val _ (lt240 m hO t)]
  | 1 => show 0 * 4096 + 1 * d.val = d.val
         omega

theorem blk1_at (hO : Ok m) (c : Dev nD) (t : Fin (cfgM m hO).N) (d : Fin 4096) (v : Fin 2048) :
    (iblk m hO c 1 t : Vec Ideal S1x4096x2048 .fp8e4m3) (ix3 0 d v) = (V m c main_arg1 : Vec Ideal S8x4096x2048 .fp8e4m3) (ix3 (bookOf t.val) d v) := by
  unfold iblk
  refine congrArg (V m c main_arg1 : Vec Ideal S8x4096x2048 .fp8e4m3) (funext fun (a : Fin 3) => Fin.ext ?_)
  match a with
  | 0 => show (BitVec.ofNat 32 (grid0.coords t 1).val).toNat * 1 + 1 * 0 = t.val % 8
         rw [tr1]; omega
  | 1 => show 0 * 4096 + 1 * d.val = d.val
         omega
  | 2 => show 0 * 2048 + 1 * v.val = v.val
         omega

theorem blk2_at (hO : Ok m) (c : Dev nD) (t : Fin (cfgM m hO).N) (v : Fin 2048) :
    (iblk m hO c 2 t : Vec Ideal S1x1x2048 .f32) (ix3 0 0 v) = (V m c main_v48 : Vec Ideal S8x1x2048 .f32) (ix3 (bookOf t.val) 0 v) := by
  unfold iblk
  refine congrArg (V m c main_v48 : Vec Ideal S8x1x2048 .f32) (funext fun (a : Fin 3) => Fin.ext ?_)
  match a with
  | 0 => show (BitVec.ofNat 32 (grid0.coords t 1).val).toNat * 1 + 1 * 0 = t.val % 8
         rw [tr1]; omega
  | 1 => show 0 * 1 + 1 * 0 = 0
         omega
  | 2 => show 0 * 2048 + 1 * v.val = v.val
         omega

theorem blk3_at (hO : Ok m) (c : Dev nD) (t : Fin (cfgM m hO).N) (r : Fin 384) (k : Fin 8) :
    (iblk m hO c 3 t : Vec Ideal S384x8 .i32) (ix2 r k) = (V m c main_v33 : Vec Ideal S11520x8 .i32) (ix2 (rowOf t.val r) k) := by
  unfold iblk
  refine congrArg (V m c main_v33 : Vec Ideal S11520x8 .i32) (funext fun (a : Fin 2) => Fin.ext ?_)
  match a with
  | 0 => show (BitVec.ofNat 32 (grid0.coords t 0).val).toNat * 384 + 1 * r.val = (rowOf t.val r).val
         rw [tr0, Nat.one_mul, rowOf_val _ (lt240 m hO t)]
  | 1 => show 0 * 8 + 1 * k.val = k.val
         omega

theorem word_at (c : Dev nD) (t : Fin grid0.N) (ht : t.val < 240) :
    ceWord c (grid0.coords t) (tbl m 0) = (V m 0 main_arg4 : Vec Ideal S6 .i32) (ix1 (⟨t.val / 40, by omega⟩ : Fin 6)) := by
  unfold ceWord
  refine congrArg (V m 0 main_arg4 : Vec Ideal S6 .i32) (funext fun (a : Fin 1) => Fin.ext ?_)
  match a with
  | 0 => show k0_off1 (grid0.coords t) 0 + 1 * 0 = t.val / 40
         rw [off1]; omega

theorem emb4_at (hO : Ok m) (t : Fin (cfgM m hO).N) (r : Fin 384) (l : Fin 8) :
    (((cfgM m hO).win 4).blk t).view.emb (ix2 r l : Shape.Idx S384x8) = (ix2 (rowOf t.val r) l : Shape.Idx S11520x8) := by
  refine (funext fun (a : Fin 2) => Fin.ext ?_)
  match a with
  | 0 => show (BitVec.ofNat 32 (grid0.coords t 0).val).toNat * 384 + 1 * r.val = (rowOf t.val r).val
         rw [tr0, Nat.one_mul, rowOf_val _ (lt240 m hO t)]
  | 1 => show 0 * 8 + 1 * l.val = l.val
         omega

theorem emb5_at (hO : Ok m) (t : Fin (cfgM m hO).N) (q : Fin 8) (l : Fin 128) :
    (((cfgM m hO).win 5).blk t).view.emb (ix2 q l : Shape.Idx S8x128) = (ix2 q l : Shape.Idx S8x128) := by
  refine (funext fun (a : Fin 2) => Fin.ext ?_)
  match a with
  | 0 => show 0 * 8 + 1 * q.val = q.val
         omega
  | 1 => show 0 * 128 + 1 * l.val = l.val
         omega

/-- The masked loss over the call's operands as the call finds them. -/
abbrev lossM (n : Fin 11520) (k : Fin 8) : EReal :=
  lossAt (V m 0 main_arg0) (V m 0 main_arg1) (V m 0 main_v48) (V m 0 main_v33) (V m 0 main_arg4) n k

/-- The masked loss of a row of a point's tile is that of the row of the whole arrays. -/
theorem rowval_at (hO : Ok m) (t : Fin (cfgM m hO).N) (r : Fin 384) :
    rowval (ceWord (0 : Dev nD) (grid0.coords t) (tbl m 0)) ((grid0.coords t 0).val % 5 * 384) (grid0.coords t 1).val
      ((iblk m hO 0 3 t : Vec Ideal S384x8 .i32) (ix2 r (bookOf t.val)))
      (iblk m hO 0 0 t) (iblk m hO 0 1 t) (iblk m hO 0 2 t) r = lossM m (rowOf t.val r) (bookOf t.val) := by
  have ht := lt240 m hO t
  have hr := rowOf_val t.val ht r
  have hz : zblk (iblk m hO 0 0 t) (iblk m hO 0 1 t) (iblk m hO 0 2 t) r = zrow (V m 0 main_arg0) (V m 0 main_arg1) (V m 0 main_v48) (rowOf t.val r) (bookOf t.val) := by
    funext v
    unfold zblk zrow
    simp only [blk0_at, blk1_at, blk2_at]
  unfold rowval lossM lossAt
  rw [hz, blk3_at, word_at m 0 t ht, crd0, crd1]
  have e1 : (⟨(rowOf t.val r).val / 1920, by omega⟩ : Fin 6) = ⟨t.val / 40, by omega⟩ := Fin.ext (by simp only [hr]; omega)
  have e2 : (rowOf t.val r).val % 1920 = t.val / 8 % 5 * 384 + r.val := by rw [hr]; omega
  rw [e1, e2]
  rfl

variable (hL : ∀ b : Fin 6, ((V m 0 main_arg4 : Vec Ideal S6 .i32) (ix1 b) : BitVec 32).toInt ≤ 2147483640)
  (hD : ∀ (n : Fin 11520) (k : Fin 8), ((V m 0 main_v33 : Vec Ideal S11520x8 .i32) (ix2 n k) : BitVec 32).toNat < 2048)

include hL hD

/-- One point's step of the block of losses. -/
theorem loss_step (hO : Ok m) (t : Fin (cfgM m hO).N) (r : Fin 384) (l : Fin 8) (h0 : l.val = t.val % 8 → lossIn m hO 0 t (ix2 r l) = 0) :
    (outsAt0 m hO 0 t.val t.isLt).1 (ix2 r l) = if l.val = t.val % 8 then lossM m (rowOf t.val r) l else lossIn m hO 0 t (ix2 r l) := by
  rw [outsAt0_eq]
  dsimp only
  have ht := lt240 m hO t
  have hc := crd1 t
  have hb : (⟨(grid0.coords t 1).val, coord1 (grid0.coords t)⟩ : Fin 8) = bookOf t.val := Fin.ext hc
  refine (ceLoss_at (grid0.coords t) _ _ _ _ _ (by rw [word_at m 0 t ht]; exact hL _) (fun r => by rw [blk3_at]; exact hD _ _) _ r l (fun e => h0 (e.trans hc))).trans ?_
  by_cases h : l.val = t.val % 8
  · rw [if_pos (h.trans hc.symm), if_pos h]
    have e : l = bookOf t.val := Fin.ext h
    rw [e]
    exact rowval_at m hO t r
  · rw [if_neg (fun e => h (e.trans hc)), if_neg h]

/-- One point's step of the block of sums. -/
theorem sums_step (hO : Ok m) (t : Fin (cfgM m hO).N) (q : Fin 8) (l : Fin 128) :
    (outsAt0 m hO 0 t.val t.isLt).2 (ix2 q l) = sumsIn m hO 0 t (ix2 q l) + if l.val = t.val % 8 then ∑ r : Fin 384, lossM m (rowOf t.val r) (bookOf t.val) else 0 := by
  rw [outsAt0_eq]
  dsimp only
  have ht := lt240 m hO t
  have hc := crd1 t
  have hb : (⟨(grid0.coords t 1).val, coord1 (grid0.coords t)⟩ : Fin 8) = bookOf t.val := Fin.ext hc
  refine (ceSums_at (grid0.coords t) _ _ _ _ _ (by rw [word_at m 0 t ht]; exact hL _) (fun r => by rw [blk3_at]; exact hD _ _) _ q l).trans ?_
  rw [hb]
  refine congrArg₂ _ rfl (if_congr (by rw [hc]) ?_ rfl)
  exact Finset.sum_congr rfl fun r _ => rowval_at m hO t r

/-- The block of losses after a tile's first point. -/
theorem loss_first (hO : Ok m) (r : Fin 384) (l : Fin 8) (n : ℕ) (hn : n < (cfgM m hO).N) (h8 : n % 8 = 0) :
    (outsAt0 m hO 0 n hn).1 (ix2 r l) = if l.val ≤ n % 8 then lossM m (rowOf n r) l else 0 := by
  have hz : (k0_pay16 (F := Ideal)) (ix2 r l) = 0 := by pointwise [k0_pay16]
  have hi : lossIn m hO 0 ⟨n, hn⟩ (ix2 r l) = 0 := by unfold lossIn; rw [if_pos h8]; exact hz
  rw [loss_step m hL hD hO ⟨n, hn⟩ r l (fun _ => hi), hi]
  exact if_congr (by simp only [h8]; omega) rfl rfl

/-- The block of losses after point `n`: the lanes done so far in this tile hold their losses, the others zero. -/
theorem loss_upto (hO : Ok m) (r : Fin 384) (l : Fin 8) : ∀ (n : ℕ) (hn : n < (cfgM m hO).N),
    (outsAt0 m hO 0 n hn).1 (ix2 r l) = if l.val ≤ n % 8 then lossM m (rowOf n r) l else 0
  | 0, hn => loss_first m hL hD hO r l 0 hn rfl
  | n + 1, hn => by
    by_cases h8 : (n + 1) % 8 = 0
    · exact loss_first m hL hD hO r l (n + 1) hn h8
    · have hn' : n < (cfgM m hO).N := Nat.lt_of_succ_lt hn
      have ih := loss_upto hO r l n hn'
      have hi : lossIn m hO 0 ⟨n + 1, hn⟩ (ix2 r l) = if l.val ≤ n % 8 then lossM m (rowOf n r) l else 0 := by
        unfold lossIn; rw [if_neg h8]; exact ih
      have hro : rowOf (n + 1) r = rowOf n r := Fin.ext (by
        show ((n + 1) / 8 * 384 + r.val) % 11520 = (n / 8 * 384 + r.val) % 11520
        rw [show (n + 1) / 8 = n / 8 by omega])
      rw [loss_step m hL hD hO ⟨n + 1, hn⟩ r l (fun e => by rw [hi, if_neg]; simp only at e; omega), hi]
      simp only [hro]
      by_cases h1 : l.val = (n + 1) % 8
      · rw [if_pos h1, if_pos (by omega)]
      · rw [if_neg h1]
        exact if_congr (by omega) rfl rfl

/-- The block of sums after point `n`: per lane the sum of that codebook's losses so far. -/
theorem sums_upto (hO : Ok m) (q : Fin 8) (l : Fin 128) : ∀ (n : ℕ) (hn : n < (cfgM m hO).N),
    (outsAt0 m hO 0 n hn).2 (ix2 q l) = ∑ s ∈ Finset.range (n + 1), if l.val = s % 8 then ∑ r : Fin 384, lossM m (rowOf s r) (bookOf s) else 0
  | 0, hn => by
      have hz : (k0_pay1 (F := Ideal)) (ix2 q l) = 0 := by pointwise [k0_pay1]
      have hi : sumsIn m hO 0 ⟨0, hn⟩ (ix2 q l) = 0 := by unfold sumsIn; rw [if_pos (Nat.zero_mod _)]; exact hz
      rw [sums_step m hL hD hO ⟨0, hn⟩ q l, hi, Finset.sum_range_one, zero_add]
  | n + 1, hn => by
      have h240 : n + 1 < 240 := Nat.lt_of_lt_of_eq hn N_0
      have hn' : n < (cfgM m hO).N := Nat.lt_of_succ_lt hn
      have ih := sums_upto hO q l n hn'
      have hi : sumsIn m hO 0 ⟨n + 1, hn⟩ (ix2 q l) = ∑ s ∈ Finset.range (n + 1), if l.val = s % 8 then ∑ r : Fin 384, lossM m (rowOf s r) (bookOf s) else 0 := by
        unfold sumsIn; rw [if_neg (show ¬(n + 1) % 240 = 0 by omega)]; exact ih
      rw [sums_step m hL hD hO ⟨n + 1, hn⟩ q l, hi, Finset.sum_range_succ _ (n + 1)]

/-- The array of losses after the call. -/
theorem arr_loss (hO : Ok m) : (dats m hO 0 0).arrAt 4 (cfgM m hO).N = ((fun j => lossM m (j 0) (j 1)) : Vec Ideal S11520x8 .f32) := by
  refine (dats m hO 0 0).arrAt_eq_of_emb 4 _ (fun t hf y => ?_) (fun i => ?_)
  · have hm := (flush0_4 (adm m hO) t).mp hf
    rw [after0_4]
    refine (fun (y : Shape.Idx S384x8) => ?_ : ∀ y : Shape.Idx S384x8, (outsAt0 m hO 0 t.val t.isLt).1 y = (fun j : Shape.Idx S11520x8 => lossM m (j 0) (j 1)) ((((cfgM m hO).win 4).blk t).view.emb y)) y
    obtain ⟨r, l, rfl⟩ : ∃ (r : Fin 384) (l : Fin 8), y = (ix2 r l : Shape.Idx S384x8) := ⟨y 0, y 1, by idx_ext⟩
    refine Eq.trans ?_ (congrArg (fun j : Shape.Idx S11520x8 => lossM m (j 0) (j 1)) (emb4_at m hO t r l)).symm
    refine (loss_upto m hL hD hO r l t.val t.isLt).trans (if_pos ?_)
    have := l.isLt
    omega
  · revert i
    refine (fun (i : Shape.Idx S11520x8) => ?_ : ∀ i : Shape.Idx S11520x8, ∃ t : Fin (cfgM m hO).N, ((cfgM m hO).win 4).flush t = true ∧ i ∈ (((cfgM m hO).win 4).blk t).view.set)
    have h0 : (i 0).val < 11520 := (i 0).isLt
    have h1 : (i 1).val < 8 := (i 1).isLt
    refine ⟨⟨(i 0).val / 384 * 8 + 7, by rw [N_M]; omega⟩, (flush0_4 (adm m hO) _).mpr (by simp only; omega), ?_⟩
    have e := emb4_at m hO ⟨(i 0).val / 384 * 8 + 7, by rw [N_M]; omega⟩ ⟨(i 0).val % 384, by omega⟩ ⟨(i 1).val, h1⟩
    have hi : i = (ix2 (rowOf ((i 0).val / 384 * 8 + 7) ⟨(i 0).val % 384, by omega⟩) (⟨(i 1).val, h1⟩ : Fin 8) : Shape.Idx S11520x8) := by
      funext a
      refine Fin.ext ?_
      match a with
      | 0 => show (i 0).val = (rowOf _ _).val
             rw [rowOf_val _ (by omega)]; simp only; omega
      | 1 => rfl
    exact (congrArg (· ∈ _) (hi.trans e.symm)).mpr (View.emb_mem_set _ _)

/-- The array of sums after the call: in each of the first eight lanes that codebook's sum over all rows. -/
theorem arr_sums (hO : Ok m) : ∃ A : Vec Ideal S8x128 .f32, (dats m hO 0 0).arrAt 5 (cfgM m hO).N = A
    ∧ ∀ (q : Fin 8) (k : Fin 8), A (ix2 q (⟨k.val, by omega⟩ : Fin 128)) = ∑ n : Fin 11520, lossM m n k := by
  refine ⟨fun j => ∑ s ∈ Finset.range 240, if (j 1).val = s % 8 then ∑ r : Fin 384, lossM m (rowOf s r) (bookOf s) else 0, ?_, fun q k => ?_⟩
  · refine (dats m hO 0 0).arrAt_eq_of_emb 5 _ (fun t hf y => ?_) (fun i => ?_)
    · have hm := (flush0_5 (adm m hO) t).mp hf
      have ht := lt240 m hO t
      rw [after0_5]
      refine (fun (y : Shape.Idx S8x128) => ?_ : ∀ y : Shape.Idx S8x128, (outsAt0 m hO 0 t.val t.isLt).2 y = (fun j : Shape.Idx S8x128 => ∑ s ∈ Finset.range 240, if (j 1).val = s % 8 then ∑ r : Fin 384, lossM m (rowOf s r) (bookOf s) else 0) ((((cfgM m hO).win 5).blk t).view.emb y)) y
      obtain ⟨r, l, rfl⟩ : ∃ (r : Fin 8) (l : Fin 128), y = (ix2 r l : Shape.Idx S8x128) := ⟨y 0, y 1, by idx_ext⟩
      refine Eq.trans ?_ (congrArg (fun j : Shape.Idx S8x128 => ∑ s ∈ Finset.range 240, if (j 1).val = s % 8 then ∑ r : Fin 384, lossM m (rowOf s r) (bookOf s) else 0) (emb5_at m hO t r l)).symm
      refine (sums_upto m hL hD hO r l t.val t.isLt).trans ?_
      rw [show t.val + 1 = 240 by omega]
      rfl
    · revert i
      refine (fun (i : Shape.Idx S8x128) => ?_ : ∀ i : Shape.Idx S8x128, ∃ t : Fin (cfgM m hO).N, ((cfgM m hO).win 5).flush t = true ∧ i ∈ (((cfgM m hO).win 5).blk t).view.set)
      have h0 : (i 0).val < 8 := (i 0).isLt
      have h1 : (i 1).val < 128 := (i 1).isLt
      refine ⟨⟨239, by rw [N_M]; omega⟩, (flush0_5 (adm m hO) _).mpr (by simp only), ?_⟩
      have e := emb5_at m hO ⟨239, by rw [N_M]; omega⟩ ⟨(i 0).val, h0⟩ ⟨(i 1).val, h1⟩
      have hi : i = (ix2 (⟨(i 0).val, h0⟩ : Fin 8) (⟨(i 1).val, h1⟩ : Fin 128) : Shape.Idx S8x128) := by
        funext a
        match a with
        | 0 => rfl
        | 1 => rfl
      exact (congrArg (· ∈ _) (hi.trans e.symm)).mpr (View.emb_mem_set _ _)
  · show (∑ s ∈ Finset.range 240, if k.val = s % 8 then ∑ r : Fin 384, lossM m (rowOf s r) (bookOf s) else 0) = _
    rw [Finset.sum_range, Fin.sum_univ_tiles 30 8 rfl, Fin.sum_univ_tiles 30 384 rfl]
    refine Finset.sum_congr rfl fun i _ => ?_
    rw [Finset.sum_eq_single k]
    · simp only
      rw [if_pos (by omega)]
      refine Finset.sum_congr rfl fun r _ => ?_
      have e1 : rowOf (i.val * 8 + k.val) r = (⟨i.val * 384 + r.val, by omega⟩ : Fin 11520) := Fin.ext (by
        rw [rowOf_val _ (by omega)]; simp only; omega)
      have e2 : bookOf (i.val * 8 + k.val) = k := Fin.ext (by show (i.val * 8 + k.val) % 8 = k.val; omega)
      rw [e1, e2]
    · intro b _ hb
      refine if_neg fun h => hb (Fin.ext ?_)
      simp only at h
      omega
    · intro h; exact absurd (Finset.mem_univ _) h

end

end Cert.KernelIdeal.Ce
-- ==== Proof.IRunVal.lean ====
/- What the kernel program's run leaves in its two results. -/
module

public import proofs.«01_k».proof.Proof.IHostVal
public import proofs.«01_k».proof.Proof.IVal

@[expose] public section

set_option maxRecDepth 16384

noncomputable section

open Idealize.ShloMosaic Idealize.ShloMosaic.TcCoe Idealize.SL.Sem

namespace Cert.KernelIdeal.Ce
open Cert.KernelIdeal Cert.KernelIdeal.Gen Cert.Ce

variable (m : (ℓ : Loc nD τ sig) → Buf (Elt Ideal) ℓ) (ρ : Dev nD → PrngReg)

theorem arr_inj : Function.Injective (Pipeline.arrRef spec0) := by decide

theorem after_loss (hO : Ok m) (c : Dev nD) : Pipeline.afterTail pcfgs (fun _ => adm m hO) (dats m hO) 0 (V0 m) [hostOps1] c main_v55 = k_v55 ((dats m hO 0 c).arrAt 4 (cfgM m hO).N) := by
  unfold Pipeline.afterTail
  refine (tail_loss _).trans ?_
  exact congrArg k_v55 (Pipeline.withArrays_arr spec0 arr_inj c (V0 m c) _ 4)

theorem after_mean (hO : Ok m) (c : Dev nD) : Pipeline.afterTail pcfgs (fun _ => adm m hO) (dats m hO) 0 (V0 m) [hostOps1] c main_v54
    = k_v54 ((dats m hO 0 c).arrAt 5 (cfgM m hO).N) (k_v47 (m ((c : Thread nD τ).loc main_arg4))) := by
  unfold Pipeline.afterTail
  refine (tail_mean _).trans ?_
  rw [Pipeline.withArrays_of_ne _ c (V0 m c) _ main_v47 (by exact (by decide : ∀ w, Pipeline.arrRef spec0 w ≠ main_v47))]
  refine (congrArg (fun Q => k_v54 Q _) (Pipeline.withArrays_arr spec0 arr_inj c (V0 m c) _ 5)).trans ?_
  exact congrArg (fun N => k_v54 _ N) (pre_count (fun b => m (c, b)))

theorem V_codes (c : Dev nD) : V m c main_v33 = k_v33 (m ((c : Thread nD τ).loc main_arg3)) := pre_codes (fun b => m (c, b))
theorem V_scales (c : Dev nD) : V m c main_v48 = k_v48 (m ((c : Thread nD τ).loc main_arg2)) := pre_scales (fun b => m (c, b))

/-- The kernel program's run: its two results from the call's arrays, and the arguments unchanged. -/
theorem run_values (hO : Ok m) : θ_run defs (onTc (τ := τ) (main (F := Ideal))) ⟨m, fun _ => 0, ρ⟩ (fun r => ∀ c : Dev nD,
      r.2.mem ((c.tc : Thread nD τ).loc main_v55) = k_v55 ((dats m hO 0 c).arrAt 4 (cfgM m hO).N)
      ∧ r.2.mem ((c.tc : Thread nD τ).loc main_v54) = k_v54 ((dats m hO 0 c).arrAt 5 (cfgM m hO).N) (k_v47 (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (((h c).2 main_v55 (by decide : main_v55 ∈ Pipeline.restRefs sig spec0)).trans (after_loss m hO c)),
      (((h c).2 main_v54 (by decide : main_v54 ∈ Pipeline.restRefs sig spec0)).trans (after_mean m hO c)),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      (((h c).2 main_arg4 (by decide : main_arg4 ∈ Pipeline.restRefs sig spec0)).trans (W_main_arg4 m hO (dats m hO) c))⟩) (run_main m ρ hO)

end Cert.KernelIdeal.Ce
-- ==== Proof.RTail.lean ====
/- The reference's host operations after the widening call, one definition per buffer, over the reference's arguments. -/
module

public import proofs.«01_k».proof.Proof.Gen.ReferenceIdeal.Frame
public import Idealize.ShloMosaic.Lib.StableHlo.RunRead
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.ReferenceIdeal.Ce

open Cert.ReferenceIdeal Cert.ReferenceIdeal.Gen

def r_v1 (X : FVec Ideal S11520x4096 .bf16) : FVec Ideal S6x1920x4096 .bf16 :=
  shapeCast S6x1920x4096 X Cert.ReferenceIdeal.Gen.shapeCasts_S11520x4096_S6x1920x4096
def r_v2 (X : FVec Ideal S11520x4096 .bf16) (W : FVec Ideal S8x4096x2048 .bf16) : FVec Ideal S6x1920x8x2048 .f32 :=
  ((fun l r => Host.dotGeneral dot_S6x1920x4096_S8x4096x2048_S6x1920x8x2048_2_1_01_02_n_n none l r)) (r_v1 X) W
def r_v3 (Sc : FVec Ideal S8x2048 .f32) : FVec Ideal S1x1x8x2048 .f32 :=
  (broadcastInDim S1x1x8x2048 ![2, 3] Cert.ReferenceIdeal.Gen.bcast_S8x2048_S1x1x8x2048_2_3) Sc
def r_v4 (Sc : FVec Ideal S8x2048 .f32) : FVec Ideal S6x1920x8x2048 .f32 :=
  (broadcastInDim S6x1920x8x2048 ![0, 1, 2, 3] Cert.ReferenceIdeal.Gen.bcast_S1x1x8x2048_S6x1920x8x2048_0_1_2_3) (r_v3 Sc)
def r_v5 (X : FVec Ideal S11520x4096 .bf16) (W : FVec Ideal S8x4096x2048 .bf16) (Sc : FVec Ideal S8x2048 .f32) : FVec Ideal S6x1920x8x2048 .f32 :=
  (mulf) (r_v2 X W) (r_v4 Sc)
def r_v6 : IVec S1920 32 :=
  iotaInDim S1920 32 0
def r_v7 : IVec S1920x1 32 :=
  (broadcastInDim S1920x1 ![0] Cert.ReferenceIdeal.Gen.bcast_S1920_S1920x1_0) (r_v6)
def r_v8 : IVec S8 32 :=
  iotaInDim S8 32 0
def r_v9 : IVec S1x8 32 :=
  (broadcastInDim S1x8 ![1] Cert.ReferenceIdeal.Gen.bcast_S8_S1x8_1) (r_v8)
def r_v10 : IVec S1920x8 32 :=
  (broadcastInDim S1920x8 ![0, 1] Cert.ReferenceIdeal.Gen.bcast_S1920x1_S1920x8_0_1) (r_v7)
def r_v11 : IVec S1920x8 32 :=
  (broadcastInDim S1920x8 ![0, 1] Cert.ReferenceIdeal.Gen.bcast_S1x8_S1920x8_0_1) (r_v9)
def r_v12 : IVec S1920x8 32 :=
  (subi) (r_v10) (r_v11)
def r_c : IVec S_ 32 :=
  constantI S_ 32 0#32
def r_c_0 : IVec S_ 32 :=
  constantI S_ 32 1919#32
def r_call0_v0 : IVec S_ 32 :=
  (id) (r_c)
def r_call0_v1 : IVec S1920x8 32 :=
  ((broadcastInDim S1920x8 ![] Cert.ReferenceIdeal.Gen.bcast_S_S1920x8)) (r_call0_v0)
def r_call0_v2 : IVec S1920x8 32 :=
  (maxsi) (r_call0_v1) (r_v12)
def r_call0_v3 : IVec S_ 32 :=
  (id) (r_c_0)
def r_call0_v4 : IVec S1920x8 32 :=
  ((broadcastInDim S1920x8 ![] Cert.ReferenceIdeal.Gen.bcast_S_S1920x8)) (r_call0_v3)
def r_v13 : IVec S1920x8 32 :=
  (minsi) (r_call0_v4) (r_call0_v2)
def r_v14 : IVec S1x1920x8 32 :=
  (broadcastInDim S1x1920x8 ![1, 2] Cert.ReferenceIdeal.Gen.bcast_S1920x8_S1x1920x8_1_2) (r_v13)
def r_v15 : IVec S6x1920x8 32 :=
  (broadcastInDim S6x1920x8 ![0, 1, 2] Cert.ReferenceIdeal.Gen.bcast_S1x1920x8_S6x1920x8_0_1_2) (r_v14)
def r_call1_c : IVec S_ 32 :=
  (constantI S_ 32 0#32)
def r_call1_v0 : IVec S6x1920x8 32 :=
  ((broadcastInDim S6x1920x8 ![] Cert.ReferenceIdeal.Gen.bcast_S_S6x1920x8)) (r_call1_c)
def r_call1_v1 : IVec S6x1920x8 1 :=
  ((cmpi .slt)) (r_v15) (r_call1_v0)
def r_call1_c_0 : IVec S_ 32 :=
  (constantI S_ 32 1920#32)
def r_call1_v2 : IVec S6x1920x8 32 :=
  ((broadcastInDim S6x1920x8 ![] Cert.ReferenceIdeal.Gen.bcast_S_S6x1920x8)) (r_call1_c_0)
def r_call1_v3 : IVec S6x1920x8 32 :=
  (addi) (r_v15) (r_call1_v2)
def r_call1_v4 : IVec S6x1920x8 32 :=
  (select) (r_call1_v1) (r_call1_v3) (r_v15)
def r_call1_v5 : IVec S6x1920x8x1 32 :=
  shapeCast S6x1920x8x1 (r_call1_v4) Cert.ReferenceIdeal.Gen.shapeCasts_S6x1920x8_S6x1920x8x1
def r_call1_c_1 : IVec S1 32 :=
  (constantI S1 32 1919#32)
def r_call1_c_2 : IVec S_ 32 :=
  (constantI S_ 32 0#32)
def r_call1_v6 : IVec S6x1920x8x1 32 :=
  ((broadcastInDim S6x1920x8x1 ![] Cert.ReferenceIdeal.Gen.bcast_S_S6x1920x8x1)) (r_call1_c_2)
def r_call1_v7 : IVec S6x1920x8x1 1 :=
  ((cmpi .sge)) (r_call1_v5) (r_call1_v6)
def r_call1_v8 : IVec S1x1x1x1 32 :=
  ((broadcastInDim S1x1x1x1 ![3] Cert.ReferenceIdeal.Gen.bcast_S1_S1x1x1x1_3)) (r_call1_c_1)
def r_call1_v9 : IVec S6x1920x8x1 32 :=
  ((broadcastInDim S6x1920x8x1 ![0, 1, 2, 3] Cert.ReferenceIdeal.Gen.bcast_S1x1x1x1_S6x1920x8x1_0_1_2_3)) (r_call1_v8)
def r_call1_v10 : IVec S6x1920x8x1 1 :=
  ((cmpi .sle)) (r_call1_v5) (r_call1_v9)
def r_call1_v11 : IVec S6x1920x8x1 1 :=
  (andi) (r_call1_v7) (r_call1_v10)
def r_call1_c_3 : IVec S_ 1 :=
  (constantI S_ 1 1#1)
def r_call1_v12 : IVec S6x1920x8 1 :=
  ((fun x v => Host.reduce IntOp.andi x v Cert.ReferenceIdeal.Gen.reducesTo_S6x1920x8x1_S6x1920x8_d3 Cert.ReferenceIdeal.Gen.h_S_)) (r_call1_v11) (r_call1_c_3)
def r_call1_v13 (C : IVec S6x1920x8 32) : IVec S6x1920x8 32 :=
  ((fun x i => Host.gather gather_S6x1920x8_S6x1920x8x1_S6x1920x8_n_1_02_02_1_3_111 x i)) C (r_call1_v5)
def r_call1_c_4 : IVec S_ 32 :=
  (constantI S_ 32 2147483648#32)
def r_call1_v14 : IVec S6x1920x8 32 :=
  ((broadcastInDim S6x1920x8 ![] Cert.ReferenceIdeal.Gen.bcast_S_S6x1920x8)) (r_call1_c_4)
def r_v16 (C : IVec S6x1920x8 32) : IVec S6x1920x8 32 :=
  (select) (r_call1_v12) (r_call1_v13 C) (r_call1_v14)
def r_v17 : IVec S1x1920x8 32 :=
  (broadcastInDim S1x1920x8 ![1, 2] Cert.ReferenceIdeal.Gen.bcast_S1920x8_S1x1920x8_1_2) (r_v12)
def r_c_1 : IVec S_ 32 :=
  constantI S_ 32 0#32
def r_v18 : IVec S1x1920x8 32 :=
  (broadcastInDim S1x1920x8 ![] Cert.ReferenceIdeal.Gen.bcast_S_S1x1920x8) (r_c_1)
def r_v19 : IVec S1x1920x8 1 :=
  (cmpi .sge) (r_v17) (r_v18)
def r_v20 : IVec S1x1920x8 32 :=
  (broadcastInDim S1x1920x8 ![1, 2] Cert.ReferenceIdeal.Gen.bcast_S1920x8_S1x1920x8_1_2) (r_v12)
def r_v21 (L : IVec S6 32) : IVec S6x1x1 32 :=
  (broadcastInDim S6x1x1 ![0] Cert.ReferenceIdeal.Gen.bcast_S6_S6x1x1_0) L
def r_v22 : IVec S6x1920x8 32 :=
  (broadcastInDim S6x1920x8 ![0, 1, 2] Cert.ReferenceIdeal.Gen.bcast_S1x1920x8_S6x1920x8_0_1_2) (r_v20)
def r_v23 (L : IVec S6 32) : IVec S6x1920x8 32 :=
  (broadcastInDim S6x1920x8 ![0, 1, 2] Cert.ReferenceIdeal.Gen.bcast_S6x1x1_S6x1920x8_0_1_2) (r_v21 L)
def r_v24 (L : IVec S6 32) : IVec S6x1920x8 1 :=
  (cmpi .slt) (r_v22) (r_v23 L)
def r_v25 : IVec S6x1920x8 1 :=
  (broadcastInDim S6x1920x8 ![0, 1, 2] Cert.ReferenceIdeal.Gen.bcast_S1x1920x8_S6x1920x8_0_1_2) (r_v19)
def r_v26 (L : IVec S6 32) : IVec S6x1920x8 1 :=
  (andi) (r_v25) (r_v24 L)
def r_cst : FVec Ideal S_ .f32 :=
  constant S_ .f32 0xFF800000#32
def r_v27 (X : FVec Ideal S11520x4096 .bf16) (W : FVec Ideal S8x4096x2048 .bf16) (Sc : FVec Ideal S8x2048 .f32) : FVec Ideal S6x1920x8 .f32 :=
  ((fun x v => Host.reduce FloatOps.maximumf x v Cert.ReferenceIdeal.Gen.reducesTo_S6x1920x8x2048_S6x1920x8_d3 Cert.ReferenceIdeal.Gen.h_S_)) (r_v5 X W Sc) (r_cst)
def r_v28 (X : FVec Ideal S11520x4096 .bf16) (W : FVec Ideal S8x4096x2048 .bf16) (Sc : FVec Ideal S8x2048 .f32) : FVec Ideal S6x1920x8x1 .f32 :=
  (broadcastInDim S6x1920x8x1 ![0, 1, 2] Cert.ReferenceIdeal.Gen.bcast_S6x1920x8_S6x1920x8x1_0_1_2) (r_v27 X W Sc)
def r_v29 (X : FVec Ideal S11520x4096 .bf16) (W : FVec Ideal S8x4096x2048 .bf16) (Sc : FVec Ideal S8x2048 .f32) : FVec Ideal S6x1920x8x2048 .f32 :=
  (broadcastInDim S6x1920x8x2048 ![0, 1, 2, 3] Cert.ReferenceIdeal.Gen.bcast_S6x1920x8x1_S6x1920x8x2048_0_1_2_3) (r_v28 X W Sc)
def r_v30 (X : FVec Ideal S11520x4096 .bf16) (W : FVec Ideal S8x4096x2048 .bf16) (Sc : FVec Ideal S8x2048 .f32) : FVec Ideal S6x1920x8x2048 .f32 :=
  (subf) (r_v5 X W Sc) (r_v29 X W Sc)
def r_v31 (X : FVec Ideal S11520x4096 .bf16) (W : FVec Ideal S8x4096x2048 .bf16) (Sc : FVec Ideal S8x2048 .f32) : FVec Ideal S6x1920x8x2048 .f32 :=
  (Host.exp) (r_v30 X W Sc)
def r_cst_2 : FVec Ideal S_ .f32 :=
  constant S_ .f32 0x00000000#32
def r_v32 (X : FVec Ideal S11520x4096 .bf16) (W : FVec Ideal S8x4096x2048 .bf16) (Sc : FVec Ideal S8x2048 .f32) : FVec Ideal S6x1920x8 .f32 :=
  ((fun x v => Host.reduceAdd x v Cert.ReferenceIdeal.Gen.reducesTo_S6x1920x8x2048_S6x1920x8_d3 Cert.ReferenceIdeal.Gen.h_S_)) (r_v31 X W Sc) (r_cst_2)
def r_v33 (X : FVec Ideal S11520x4096 .bf16) (W : FVec Ideal S8x4096x2048 .bf16) (Sc : FVec Ideal S8x2048 .f32) : FVec Ideal S6x1920x8 .f32 :=
  (Host.log) (r_v32 X W Sc)
def r_v34 (X : FVec Ideal S11520x4096 .bf16) (W : FVec Ideal S8x4096x2048 .bf16) (Sc : FVec Ideal S8x2048 .f32) : FVec Ideal S6x1920x8 .f32 :=
  shapeCast S6x1920x8 (r_v28 X W Sc) Cert.ReferenceIdeal.Gen.shapeCasts_S6x1920x8x1_S6x1920x8
def r_v35 (X : FVec Ideal S11520x4096 .bf16) (W : FVec Ideal S8x4096x2048 .bf16) (Sc : FVec Ideal S8x2048 .f32) : FVec Ideal S6x1920x8 .f32 :=
  (addf) (r_v33 X W Sc) (r_v34 X W Sc)
def r_v36 (C : IVec S6x1920x8 32) : IVec S6x1920x8x1 32 :=
  (broadcastInDim S6x1920x8x1 ![0, 1, 2] Cert.ReferenceIdeal.Gen.bcast_S6x1920x8_S6x1920x8x1_0_1_2) (r_v16 C)
def r_call2_c : IVec S_ 32 :=
  (constantI S_ 32 0#32)
def r_call2_v0 : IVec S6x1920x8x1 32 :=
  ((broadcastInDim S6x1920x8x1 ![] Cert.ReferenceIdeal.Gen.bcast_S_S6x1920x8x1)) (r_call2_c)
def r_call2_v1 (C : IVec S6x1920x8 32) : IVec S6x1920x8x1 1 :=
  ((cmpi .slt)) (r_v36 C) (r_call2_v0)
def r_call2_c_0 : IVec S_ 32 :=
  (constantI S_ 32 2048#32)
def r_call2_v2 : IVec S6x1920x8x1 32 :=
  ((broadcastInDim S6x1920x8x1 ![] Cert.ReferenceIdeal.Gen.bcast_S_S6x1920x8x1)) (r_call2_c_0)
def r_call2_v3 (C : IVec S6x1920x8 32) : IVec S6x1920x8x1 32 :=
  (addi) (r_v36 C) (r_call2_v2)
def r_call2_v4 (C : IVec S6x1920x8 32) : IVec S6x1920x8x1 32 :=
  (select) (r_call2_v1 C) (r_call2_v3 C) (r_v36 C)
def r_call2_v5 (C : IVec S6x1920x8 32) : IVec S6x1920x8x1x1 32 :=
  shapeCast S6x1920x8x1x1 (r_call2_v4 C) Cert.ReferenceIdeal.Gen.shapeCasts_S6x1920x8x1_S6x1920x8x1x1
def r_call2_c_1 : IVec S1 32 :=
  (constantI S1 32 2047#32)
def r_call2_c_2 : IVec S_ 32 :=
  (constantI S_ 32 0#32)
def r_call2_v6 : IVec S6x1920x8x1x1 32 :=
  ((broadcastInDim S6x1920x8x1x1 ![] Cert.ReferenceIdeal.Gen.bcast_S_S6x1920x8x1x1)) (r_call2_c_2)
def r_call2_v7 (C : IVec S6x1920x8 32) : IVec S6x1920x8x1x1 1 :=
  ((cmpi .sge)) (r_call2_v5 C) (r_call2_v6)
def r_call2_v8 : IVec S1x1x1x1x1 32 :=
  ((broadcastInDim S1x1x1x1x1 ![4] Cert.ReferenceIdeal.Gen.bcast_S1_S1x1x1x1x1_4)) (r_call2_c_1)
def r_call2_v9 : IVec S6x1920x8x1x1 32 :=
  ((broadcastInDim S6x1920x8x1x1 ![0, 1, 2, 3, 4] Cert.ReferenceIdeal.Gen.bcast_S1x1x1x1x1_S6x1920x8x1x1_0_1_2_3_4)) (r_call2_v8)
def r_call2_v10 (C : IVec S6x1920x8 32) : IVec S6x1920x8x1x1 1 :=
  ((cmpi .sle)) (r_call2_v5 C) (r_call2_v9)
def r_call2_v11 (C : IVec S6x1920x8 32) : IVec S6x1920x8x1x1 1 :=
  (andi) (r_call2_v7 C) (r_call2_v10 C)
def r_call2_c_3 : IVec S_ 1 :=
  (constantI S_ 1 1#1)
def r_call2_v12 (C : IVec S6x1920x8 32) : IVec S6x1920x8x1 1 :=
  ((fun x v => Host.reduce IntOp.andi x v Cert.ReferenceIdeal.Gen.reducesTo_S6x1920x8x1x1_S6x1920x8x1_d4 Cert.ReferenceIdeal.Gen.h_S_)) (r_call2_v11 C) (r_call2_c_3)
def r_call2_v13 (X : FVec Ideal S11520x4096 .bf16) (W : FVec Ideal S8x4096x2048 .bf16) (Sc : FVec Ideal S8x2048 .f32) (C : IVec S6x1920x8 32) : FVec Ideal S6x1920x8x1 .f32 :=
  ((fun x i => Host.gather gather_S6x1920x8x2048_S6x1920x8x1x1_S6x1920x8x1_n_3_012_012_3_4_1111 x i)) (r_v5 X W Sc) (r_call2_v5 C)
def r_call2_cst : FVec Ideal S_ .f32 :=
  (constant S_ .f32 0x7FC00000#32)
def r_call2_v14 : FVec Ideal S6x1920x8x1 .f32 :=
  ((broadcastInDim S6x1920x8x1 ![] Cert.ReferenceIdeal.Gen.bcast_S_S6x1920x8x1)) (r_call2_cst)
def r_v37 (X : FVec Ideal S11520x4096 .bf16) (W : FVec Ideal S8x4096x2048 .bf16) (Sc : FVec Ideal S8x2048 .f32) (C : IVec S6x1920x8 32) : FVec Ideal S6x1920x8x1 .f32 :=
  (select) (r_call2_v12 C) (r_call2_v13 X W Sc C) (r_call2_v14)
def r_v38 (X : FVec Ideal S11520x4096 .bf16) (W : FVec Ideal S8x4096x2048 .bf16) (Sc : FVec Ideal S8x2048 .f32) (C : IVec S6x1920x8 32) : FVec Ideal S6x1920x8 .f32 :=
  shapeCast S6x1920x8 (r_v37 X W Sc C) Cert.ReferenceIdeal.Gen.shapeCasts_S6x1920x8x1_S6x1920x8
def r_v39 (X : FVec Ideal S11520x4096 .bf16) (W : FVec Ideal S8x4096x2048 .bf16) (Sc : FVec Ideal S8x2048 .f32) (C : IVec S6x1920x8 32) : FVec Ideal S6x1920x8 .f32 :=
  (subf) (r_v35 X W Sc) (r_v38 X W Sc C)
def r_cst_3 : FVec Ideal S_ .f32 :=
  constant S_ .f32 0x00000000#32
def r_call3_v0 : FVec Ideal S_ .f32 :=
  (id) (r_cst_3)
def r_call3_v1 : FVec Ideal S6x1920x8 .f32 :=
  ((broadcastInDim S6x1920x8 ![] Cert.ReferenceIdeal.Gen.bcast_S_S6x1920x8)) (r_call3_v0)
def r_v40 (X : FVec Ideal S11520x4096 .bf16) (W : FVec Ideal S8x4096x2048 .bf16) (Sc : FVec Ideal S8x2048 .f32) (C : IVec S6x1920x8 32) (L : IVec S6 32) : FVec Ideal S6x1920x8 .f32 :=
  (select) (r_v26 L) (r_v39 X W Sc C) (r_call3_v1)
def r_v41 (L : IVec S6 32) : IVec S6x1920x8 32 :=
  ((extui 32 · Cert.ReferenceIdeal.Gen.natLt_1_32)) (r_v26 L)
def r_c_4 : IVec S_ 32 :=
  constantI S_ 32 0#32
def r_v42 (L : IVec S6 32) : IVec S8 32 :=
  ((fun x v => Host.reduce IntOp.addi x v Cert.ReferenceIdeal.Gen.reducesTo_S6x1920x8_S8_d0_1 Cert.ReferenceIdeal.Gen.h_S_)) (r_v41 L) (r_c_4)
def r_v43 (L : IVec S6 32) : FVec Ideal S8 .f32 :=
  (sitofp .f32) (r_v42 L)
def r_cst_5 : FVec Ideal S_ .f32 :=
  constant S_ .f32 0x00000000#32
def r_v44 : FVec Ideal S8 .f32 :=
  (broadcastInDim S8 ![] Cert.ReferenceIdeal.Gen.bcast_S_S8) (r_cst_5)
def r_v45 (L : IVec S6 32) : IVec S8 1 :=
  (cmpf .ogt) (r_v43 L) (r_v44)
def r_cst_6 : FVec Ideal S_ .f32 :=
  constant S_ .f32 0x3F800000#32
def r_call4_v0 : FVec Ideal S_ .f32 :=
  (id) (r_cst_6)
def r_call4_v1 : FVec Ideal S8 .f32 :=
  ((broadcastInDim S8 ![] Cert.ReferenceIdeal.Gen.bcast_S_S8)) (r_call4_v0)
def r_v46 (L : IVec S6 32) : FVec Ideal S8 .f32 :=
  (select) (r_v45 L) (r_v43 L) (r_call4_v1)
def r_cst_7 : FVec Ideal S_ .f32 :=
  constant S_ .f32 0x00000000#32
def r_v47 (X : FVec Ideal S11520x4096 .bf16) (W : FVec Ideal S8x4096x2048 .bf16) (Sc : FVec Ideal S8x2048 .f32) (C : IVec S6x1920x8 32) (L : IVec S6 32) : FVec Ideal S8 .f32 :=
  ((fun x v => Host.reduceAdd x v Cert.ReferenceIdeal.Gen.reducesTo_S6x1920x8_S8_d0_1 Cert.ReferenceIdeal.Gen.h_S_)) (r_v40 X W Sc C L) (r_cst_7)
def r_v48 (X : FVec Ideal S11520x4096 .bf16) (W : FVec Ideal S8x4096x2048 .bf16) (Sc : FVec Ideal S8x2048 .f32) (C : IVec S6x1920x8 32) (L : IVec S6 32) : FVec Ideal S8 .f32 :=
  (Host.divf) (r_v47 X W Sc C L) (r_v46 L)
def r_cst_8 : FVec Ideal S_ .f32 :=
  constant S_ .f32 0x00000000#32
def r_v49 (X : FVec Ideal S11520x4096 .bf16) (W : FVec Ideal S8x4096x2048 .bf16) (Sc : FVec Ideal S8x2048 .f32) (C : IVec S6x1920x8 32) (L : IVec S6 32) : FVec Ideal S_ .f32 :=
  ((fun x v => Host.reduceAdd x v Cert.ReferenceIdeal.Gen.reducesTo_S8_S_d0 Cert.ReferenceIdeal.Gen.h_S_)) (r_v48 X W Sc C L) (r_cst_8)
def r_cst_9 : FVec Ideal S_ .f32 :=
  constant S_ .f32 0x41000000#32
def r_v50 (X : FVec Ideal S11520x4096 .bf16) (W : FVec Ideal S8x4096x2048 .bf16) (Sc : FVec Ideal S8x2048 .f32) (C : IVec S6x1920x8 32) (L : IVec S6 32) : FVec Ideal S_ .f32 :=
  (Host.divf) (r_v49 X W Sc C L) (r_cst_9)

/-- What the host operations leave in `main_v40`, from any contents before them. -/
theorem tail_loss (U : Valuation τ sig (Elt Ideal)) :
    StableHlo.after ([hostOps1, hostOps1_1, hostOps1_2, hostOps1_3, hostOps1_4, hostOps1_5, hostOps1_6, hostOps1_7, hostOps1_8, hostOps1_9, hostOps1_10].flatten) U (Proc.devRef .tc main_v40) = r_v40 (U (Proc.devRef .tc main_arg0)) (U (Proc.devRef .tc main_v0)) (U (Proc.devRef .tc main_arg2)) (U (Proc.devRef .tc main_arg3)) (U (Proc.devRef .tc main_arg4)) := by
  after_reads_simp
  simp -implicitDefEqProofs only [StableHlo.TRef.toBuf, StableHlo.TRef.ofBuf, cast_cast, cast_eq]
  clean_types
  simp only [r_v1, r_v2, r_v3, r_v4, r_v5, r_v6, r_v7, r_v8, r_v9, r_v10, r_v11, r_v12, r_c, r_c_0, r_call0_v0, r_call0_v1, r_call0_v2, r_call0_v3, r_call0_v4, r_v13, r_v14, r_v15, r_call1_c, r_call1_v0, r_call1_v1, r_call1_c_0, r_call1_v2, r_call1_v3, r_call1_v4, r_call1_v5, r_call1_c_1, r_call1_c_2, r_call1_v6, r_call1_v7, r_call1_v8, r_call1_v9, r_call1_v10, r_call1_v11, r_call1_c_3, r_call1_v12, r_call1_v13, r_call1_c_4, r_call1_v14, r_v16, r_v17, r_c_1, r_v18, r_v19, r_v20, r_v21, r_v22, r_v23, r_v24, r_v25, r_v26, r_cst, r_v27, r_v28, r_v29, r_v30, r_v31, r_cst_2, r_v32, r_v33, r_v34, r_v35, r_v36, r_call2_c, r_call2_v0, r_call2_v1, r_call2_c_0, r_call2_v2, r_call2_v3, r_call2_v4, r_call2_v5, r_call2_c_1, r_call2_c_2, r_call2_v6, r_call2_v7, r_call2_v8, r_call2_v9, r_call2_v10, r_call2_v11, r_call2_c_3, r_call2_v12, r_call2_v13, r_call2_cst, r_call2_v14, r_v37, r_v38, r_v39, r_cst_3, r_call3_v0, r_call3_v1, r_v40, r_v41, r_c_4, r_v42, r_v43, r_cst_5, r_v44, r_v45, r_cst_6, r_call4_v0, r_call4_v1, r_v46, r_cst_7, r_v47, r_v48, r_cst_8, r_v49, r_cst_9, r_v50]
  rfl

/-- What the host operations leave in `main_v50`, from any contents before them. -/
theorem tail_mean (U : Valuation τ sig (Elt Ideal)) :
    StableHlo.after ([hostOps1, hostOps1_1, hostOps1_2, hostOps1_3, hostOps1_4, hostOps1_5, hostOps1_6, hostOps1_7, hostOps1_8, hostOps1_9, hostOps1_10].flatten) U (Proc.devRef .tc main_v50) = r_v50 (U (Proc.devRef .tc main_arg0)) (U (Proc.devRef .tc main_v0)) (U (Proc.devRef .tc main_arg2)) (U (Proc.devRef .tc main_arg3)) (U (Proc.devRef .tc main_arg4)) := by
  after_reads_simp
  simp -implicitDefEqProofs only [StableHlo.TRef.toBuf, StableHlo.TRef.ofBuf, cast_cast, cast_eq]
  clean_types
  simp only [r_v1, r_v2, r_v3, r_v4, r_v5, r_v6, r_v7, r_v8, r_v9, r_v10, r_v11, r_v12, r_c, r_c_0, r_call0_v0, r_call0_v1, r_call0_v2, r_call0_v3, r_call0_v4, r_v13, r_v14, r_v15, r_call1_c, r_call1_v0, r_call1_v1, r_call1_c_0, r_call1_v2, r_call1_v3, r_call1_v4, r_call1_v5, r_call1_c_1, r_call1_c_2, r_call1_v6, r_call1_v7, r_call1_v8, r_call1_v9, r_call1_v10, r_call1_v11, r_call1_c_3, r_call1_v12, r_call1_v13, r_call1_c_4, r_call1_v14, r_v16, r_v17, r_c_1, r_v18, r_v19, r_v20, r_v21, r_v22, r_v23, r_v24, r_v25, r_v26, r_cst, r_v27, r_v28, r_v29, r_v30, r_v31, r_cst_2, r_v32, r_v33, r_v34, r_v35, r_v36, r_call2_c, r_call2_v0, r_call2_v1, r_call2_c_0, r_call2_v2, r_call2_v3, r_call2_v4, r_call2_v5, r_call2_c_1, r_call2_c_2, r_call2_v6, r_call2_v7, r_call2_v8, r_call2_v9, r_call2_v10, r_call2_v11, r_call2_c_3, r_call2_v12, r_call2_v13, r_call2_cst, r_call2_v14, r_v37, r_v38, r_v39, r_cst_3, r_call3_v0, r_call3_v1, r_v40, r_v41, r_c_4, r_v42, r_v43, r_cst_5, r_v44, r_v45, r_cst_6, r_call4_v0, r_call4_v1, r_v46, r_cst_7, r_v47, r_v48, r_cst_8, r_v49, r_cst_9, r_v50]
  rfl

end Cert.ReferenceIdeal.Ce

end
-- ==== Proof.RVal.lean ====
/- The reference's loss at one frame and codebook: the cross entropy of the frame's logits at the target a codebook's delay back, kept by the mask. -/
module

public import proofs.«01_k».proof.Proof.RTail
public import proofs.«01_k».proof.Proof.PureInt
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Ce
open Cert.ReferenceIdeal Cert.ReferenceIdeal.Gen Cert.Ce

/-! ## The two gathers at an index -/

theorem gather_code (x : IVec S6x1920x8 32) (idx : IVec S6x1920x8x1 32) (b : Fin 6) (t : Fin 1920) (k : Fin 8) :
    Host.gather gather_S6x1920x8_S6x1920x8x1_S6x1920x8_n_1_02_02_1_3_111 x idx (ix3 b t k)
      = x (ix3 b (⟨min (idx (ix4 b t k 0)).toInt.toNat 1919, by omega⟩ : Fin 1920) k) := by
  unfold Host.gather
  congr 1
  generalize hG : gather_S6x1920x8_S6x1920x8x1_S6x1920x8_n_1_02_02_1_3_111 = G
  funext (a : Fin 3)
  refine Fin.ext ?_
  show G.start (ix3 b t k) idx a + G.batchCoord (ix3 b t k) a + G.offCoord (ix3 b t k) a = _
  match a with
  | 1 =>
    rw [GatherDims.batchCoord_eq_zero _ _ _ (fun h => by subst hG; revert h; decide),
      GatherDims.offCoord_eq_zero _ _ _ (fun h => ((GatherDims.mem_sKept _ _).mp h).1 (by subst hG; decide))]
    simp only [Nat.add_zero]
    unfold GatherDims.start
    rw [dif_pos (show (1 : Fin 3) ∈ G.startIndexMap by subst hG; decide)]
    have hsi : G.siIdx (ix3 b t k) ⟨List.idxOf (1 : Fin 3) G.startIndexMap,
        List.idxOf_lt_length_iff.2 (show (1 : Fin 3) ∈ G.startIndexMap by subst hG; decide)⟩ = ix4 b t k 0 := by
      subst hG
      funext (c : Fin 4); refine Fin.ext ?_
      match c with
      | 0 => rfl
      | 1 => rfl
      | 2 => rfl
      | 3 => rfl
    rw [hsi]
    subst hG
    rfl
  | 0 =>
    rw [GatherDims.start_batching _ _ _ _ (by subst hG; decide),
      GatherDims.offCoord_eq_zero _ _ _ (fun h => ((GatherDims.mem_sKept _ _).mp h).2 (by subst hG; decide))]
    simp only [Nat.zero_add, Nat.add_zero]
    unfold GatherDims.batchCoord
    rw [dif_pos (show (0 : Fin 3) ∈ G.operandBatchingDims by subst hG; decide)]
    subst hG
    rfl
  | 2 =>
    rw [GatherDims.start_batching _ _ _ _ (by subst hG; decide),
      GatherDims.offCoord_eq_zero _ _ _ (fun h => ((GatherDims.mem_sKept _ _).mp h).2 (by subst hG; decide))]
    simp only [Nat.zero_add, Nat.add_zero]
    unfold GatherDims.batchCoord
    rw [dif_pos (show (2 : Fin 3) ∈ G.operandBatchingDims by subst hG; decide)]
    subst hG
    rfl

theorem gather_logit (x : FVec Ideal S6x1920x8x2048 .f32) (idx : IVec S6x1920x8x1x1 32) (b : Fin 6) (t : Fin 1920) (k : Fin 8) :
    Host.gather gather_S6x1920x8x2048_S6x1920x8x1x1_S6x1920x8x1_n_3_012_012_3_4_1111 x idx (ix4 b t k 0)
      = x (ix4 b t k (⟨min (idx (ix5 b t k 0 0)).toInt.toNat 2047, by omega⟩ : Fin 2048)) := by
  unfold Host.gather
  congr 1
  generalize hG : gather_S6x1920x8x2048_S6x1920x8x1x1_S6x1920x8x1_n_3_012_012_3_4_1111 = G
  funext (a : Fin 4)
  refine Fin.ext ?_
  show G.start (ix4 b t k 0) idx a + G.batchCoord (ix4 b t k 0) a + G.offCoord (ix4 b t k 0) a = _
  match a with
  | 3 =>
    rw [GatherDims.batchCoord_eq_zero _ _ _ (fun h => by subst hG; revert h; decide),
      GatherDims.offCoord_eq_zero _ _ _ (fun h => ((GatherDims.mem_sKept _ _).mp h).1 (by subst hG; decide))]
    simp only [Nat.add_zero]
    unfold GatherDims.start
    rw [dif_pos (show (3 : Fin 4) ∈ G.startIndexMap by subst hG; decide)]
    have hsi : G.siIdx (ix4 b t k 0) ⟨List.idxOf (3 : Fin 4) G.startIndexMap,
        List.idxOf_lt_length_iff.2 (show (3 : Fin 4) ∈ G.startIndexMap by subst hG; decide)⟩ = ix5 b t k 0 0 := by
      subst hG
      funext (c : Fin 5); refine Fin.ext ?_
      match c with
      | 0 => rfl
      | 1 => rfl
      | 2 => rfl
      | 3 => rfl
      | 4 => rfl
    rw [hsi]
    subst hG
    rfl
  | 0 =>
    rw [GatherDims.start_batching _ _ _ _ (by subst hG; decide),
      GatherDims.offCoord_eq_zero _ _ _ (fun h => ((GatherDims.mem_sKept _ _).mp h).2 (by subst hG; decide))]
    simp only [Nat.zero_add, Nat.add_zero]
    unfold GatherDims.batchCoord
    rw [dif_pos (show (0 : Fin 4) ∈ G.operandBatchingDims by subst hG; decide)]
    subst hG
    rfl
  | 1 =>
    rw [GatherDims.start_batching _ _ _ _ (by subst hG; decide),
      GatherDims.offCoord_eq_zero _ _ _ (fun h => ((GatherDims.mem_sKept _ _).mp h).2 (by subst hG; decide))]
    simp only [Nat.zero_add, Nat.add_zero]
    unfold GatherDims.batchCoord
    rw [dif_pos (show (1 : Fin 4) ∈ G.operandBatchingDims by subst hG; decide)]
    subst hG
    rfl
  | 2 =>
    rw [GatherDims.start_batching _ _ _ _ (by subst hG; decide),
      GatherDims.offCoord_eq_zero _ _ _ (fun h => ((GatherDims.mem_sKept _ _).mp h).2 (by subst hG; decide))]
    simp only [Nat.zero_add, Nat.add_zero]
    unfold GatherDims.batchCoord
    rw [dif_pos (show (2 : Fin 4) ∈ G.operandBatchingDims by subst hG; decide)]
    subst hG
    rfl

theorem gather_code' (x : IVec S6x1920x8 32) (idx : IVec S6x1920x8x1 32) (b : Fin 6) (t : Fin 1920) (k : Fin 8) (j : Fin 1920)
    (hj : (idx (ix4 b t k 0) : BitVec 32).toInt = j.val) :
    Host.gather gather_S6x1920x8_S6x1920x8x1_S6x1920x8_n_1_02_02_1_3_111 x idx (ix3 b t k) = x (ix3 b j k) := by
  refine (gather_code x idx b t k).trans ?_
  refine congrArg (fun q : Fin 1920 => x (ix3 b q k)) (Fin.ext ?_)
  show min (idx (ix4 b t k 0)).toInt.toNat 1919 = j.val
  generalize idx (ix4 b t k 0) = u at hj ⊢
  have := j.isLt
  omega

theorem gather_logit' (x : FVec Ideal S6x1920x8x2048 .f32) (idx : IVec S6x1920x8x1x1 32) (b : Fin 6) (t : Fin 1920) (k : Fin 8) (j : Fin 2048)
    (hj : (idx (ix5 b t k 0 0) : BitVec 32).toInt = j.val) :
    Host.gather gather_S6x1920x8x2048_S6x1920x8x1x1_S6x1920x8x1_n_3_012_012_3_4_1111 x idx (ix4 b t k 0) = x (ix4 b t k j) := by
  refine (gather_logit x idx b t k).trans ?_
  refine congrArg (fun q : Fin 2048 => x (ix4 b t k q)) (Fin.ext ?_)
  show min (idx (ix5 b t k 0 0)).toInt.toNat 2047 = j.val
  generalize idx (ix5 b t k 0 0) = u at hj ⊢
  have := j.isLt
  omega

/-! ## Sums over the batch and time axes -/

theorem fiber_bt (j : S8.Idx) (i : S6x1920x8.Idx) :
    reducesTo_S6x1920x8_S8_d0_1.drop i = j ↔ ∃ p : Fin 6 × Fin 1920, (ix3 p.1 p.2 (j 0 : Fin 8) : S6x1920x8.Idx) = i := by
  constructor
  · intro e
    refine ⟨(i 0, i 1), ?_⟩
    funext (a : Fin 3); apply Fin.ext
    match a with
    | 0 => rfl
    | 1 => rfl
    | 2 => exact (congrArg Fin.val (congrFun e (0 : Fin 1))).symm
  · rintro ⟨p, rfl⟩
    funext (a : Fin 1); apply Fin.ext
    match a with
    | 0 => rfl

theorem inj_bt (k : Fin 8) : Function.Injective (fun p : Fin 6 × Fin 1920 => (ix3 p.1 p.2 k : S6x1920x8.Idx)) := by
  rintro ⟨a, b⟩ ⟨c, d⟩ e
  have h0 : a = c := congrFun e (0 : Fin 3)
  have h1 : b = d := congrFun e (1 : Fin 3)
  rw [h0, h1]

section
variable (X : FVec Ideal S11520x4096 .bf16) (W : FVec Ideal S8x4096x2048 .bf16) (Sc : FVec Ideal S8x2048 .f32) (C : IVec S6x1920x8 32) (L : IVec S6 32)
  (b : Fin 6) (t : Fin 1920) (k : Fin 8)

/-- The logits of one frame under one codebook. -/
def zr (v : Fin 2048) : EReal := (∑ d : Fin 4096, X (ix2 (⟨b.val * 1920 + t.val, by omega⟩ : Fin 11520) d) * W (ix3 k d v)) * Sc (ix2 k v)

theorem v5_at (v : Fin 2048) : r_v5 X W Sc (ix4 b t k v) = zr X W Sc b t k v := by
  pointwise [r_v5, r_v4, r_v3, r_v2, r_v1, zr]
theorem v27_at : r_v27 X W Sc (ix3 b t k) = topOf (zr X W Sc b t k) := by
  pointwise [r_v27, r_cst]
  unfold topOf
  simp only [v5_at]
theorem v32_at : r_v32 X W Sc (ix3 b t k) = sumOf (zr X W Sc b t k) := by
  pointwise [r_v32, r_cst_2, r_v31, r_v30, r_v29, r_v28]
  unfold sumOf
  simp only [v5_at, v27_at]
theorem v35_at : r_v35 X W Sc (ix3 b t k) = topOf (zr X W Sc b t k) + Ideal.log (sumOf (zr X W Sc b t k)) := by
  pointwise [r_v35, r_v33, r_v34, r_v28]
  rw [v27_at, v32_at, add_comm]
theorem v12_at : r_v12 (ix2 t k) = IntOp.subi (BitVec.ofNat 32 t.val) (BitVec.ofNat 32 k.val) := by
  pointwise [r_v12, r_v11, r_v10, r_v9, r_v8, r_v7, r_v6]
theorem v15_at : r_v15 (ix3 b t k) = BitVec.ofNat 32 (t.val - k.val) := by
  pointwise [r_v15, r_v14, r_v13, r_call0_v4, r_call0_v3, r_call0_v2, r_call0_v1, r_call0_v0, r_c, r_c_0]
  rw [v12_at]
  exact clip_eq _ _ t.isLt k.isLt
theorem c1v5_at : r_call1_v5 (ix4 b t k 0) = BitVec.ofNat 32 (t.val - k.val) := by
  pointwise [r_call1_v5, r_call1_v4, r_call1_v1, r_call1_v0, r_call1_v3, r_call1_v2, r_call1_c, r_call1_c_0]
  rw [v15_at]
  exact wrap_eq _ _ (by simp only [BitVec.toNat_ofNat]; omega)
theorem c1v12_at : r_call1_v12 (ix3 b t k) = 1#1 := by
  pointwise [r_call1_v12, r_call1_v11, r_call1_v10, r_call1_v9, r_call1_v8, r_call1_v7, r_call1_v6, r_call1_c_1, r_call1_c_2, r_call1_c_3]
  refine (fold_andi _ _).mpr fun x _ => ?_
  rw [Subsingleton.elim x 0, c1v5_at]
  exact inb_eq _ 1919 (by omega) (by simp only [BitVec.toNat_ofNat]; omega)
/-- The target of a frame, a codebook's delay back. -/
theorem v16_at : r_v16 C (ix3 b t k) = C (ix3 b (⟨t.val - k.val, by omega⟩ : Fin 1920) k) := by
  pointwise [r_v16]
  rw [c1v12_at]
  refine (show Scalar.select (1#1) _ _ = r_call1_v13 C (ix3 b t k) from rfl).trans ?_
  refine gather_code' C r_call1_v5 b t k _ ?_
  rw [c1v5_at]
  exact WordCmp.toInt_ofNat_of_lt (by omega)
theorem v26_at : r_v26 L (ix3 b t k) = mask (L (ix1 b)) t.val k.val := by
  pointwise [r_v26, r_v25, r_v24, r_v23, r_v22, r_v21, r_v20, r_v19, r_v18, r_v17, r_c_1]
  rw [v12_at]
  rfl

variable (hC : ∀ (b : Fin 6) (t : Fin 1920) (k : Fin 8), (C (ix3 b t k) : BitVec 32).toNat < 2048)
include hC

theorem c2v5_at : r_call2_v5 C (ix5 b t k 0 0) = r_v16 C (ix3 b t k) := by
  pointwise [r_call2_v5, r_call2_v4, r_call2_v3, r_call2_v2, r_call2_v1, r_call2_v0, r_call2_c, r_call2_c_0, r_v36]
  refine wrap_eq _ _ ?_
  rw [v16_at]
  exact (hC _ _ _).trans (by omega)
theorem c2v12_at : r_call2_v12 C (ix4 b t k 0) = 1#1 := by
  pointwise [r_call2_v12, r_call2_v11, r_call2_v10, r_call2_v9, r_call2_v8, r_call2_v7, r_call2_v6, r_call2_c_1, r_call2_c_2, r_call2_c_3]
  refine (fold_andi _ _).mpr fun x _ => ?_
  rw [Subsingleton.elim x 0, c2v5_at C b t k hC]
  exact inb_eq _ 2047 (by omega) (by rw [v16_at]; exact Nat.le_of_lt_succ (hC _ _ _))
/-- The logit at the target. -/
theorem c2v13_at : r_call2_v13 X W Sc C (ix4 b t k 0)
    = zr X W Sc b t k (⟨(C (ix3 b (⟨t.val - k.val, by omega⟩ : Fin 1920) k) : BitVec 32).toNat % 2048, Nat.mod_lt _ (by omega)⟩ : Fin 2048) := by
  refine (gather_logit' (r_v5 X W Sc) (r_call2_v5 C) b t k _ ?_).trans (v5_at X W Sc b t k _)
  rw [c2v5_at C b t k hC, v16_at]
  have h := hC b (⟨t.val - k.val, by omega⟩ : Fin 1920) k
  show _ = ((_ % 2048 : ℕ) : ℤ)
  rw [toInt_lt _ 2048 (by omega) h, Nat.mod_eq_of_lt h]

/-- The reference's loss of a frame under a codebook. -/
theorem v40_at : r_v40 X W Sc C L (ix3 b t k)
    = if mask (L (ix1 b)) t.val k.val = 1#1 then
        ceOf (zr X W Sc b t k) (⟨(C (ix3 b (⟨t.val - k.val, by omega⟩ : Fin 1920) k) : BitVec 32).toNat % 2048, Nat.mod_lt _ (by omega)⟩ : Fin 2048)
      else 0 := by
  pointwise [r_v40, r_v39, r_v38, r_v37, r_call3_v1, r_call3_v0, r_cst_3]
  rw [v26_at, v35_at, c2v12_at C b t k hC, c2v13_at X W Sc C b t k hC]
  unfold Scalar.select ceOf
  have z : id (constant (F := Ideal) S_ .f32 0#32) ix0 = 0 := Ideal.ofBits_zero_f32
  rw [z]
  rfl
omit hC
/-- The number of frames a codebook keeps, as a word. -/
theorem v42_at : r_v42 L (ix1 k) = BitVec.ofNat 32 (∑ b : Fin 6, ∑ t : Fin 1920, (BitVec.setWidth 32 (mask (L (ix1 b)) t.val k.val)).toNat) := by
  pointwise [r_v42, r_v41, r_c_4]
  rw [fold_addi, Finset.sum_filter_eq_sum_of_fiber _ _ (inj_bt k) (fiber_bt (ix1 k)), Fintype.sum_prod_type]
  simp only [v26_at]

theorem v47_at : r_v47 X W Sc C L (ix1 k) = ∑ b : Fin 6, ∑ t : Fin 1920, r_v40 X W Sc C L (ix3 b t k) := by
  pointwise [r_v47, r_cst_7]
  unfold Ideal.hostReduceAdd
  rw [zero_add, Finset.sum_filter_eq_sum_of_fiber _ _ (inj_bt k) (fiber_bt (ix1 k)), Fintype.sum_prod_type]
theorem v46_at : r_v46 L (ix1 k) = if (0 : EReal) < FloatOps.sitofp (F := Ideal) .f32 (r_v42 L (ix1 k)) then FloatOps.sitofp (F := Ideal) .f32 (r_v42 L (ix1 k)) else 1 := by
  pointwise [r_v46, r_v45, r_v44, r_v43, r_cst_5, r_cst_6, r_call4_v0, r_call4_v1]
  show (if _ then _ else Ideal.ofBits .f32 1065353216#32) = _
  pointwise []
theorem v50_at (j : S_.Idx) : r_v50 X W Sc C L j
    = Ideal.div (∑ k : Fin 8, Ideal.div (r_v47 X W Sc C L (ix1 k)) (r_v46 L (ix1 k))) (Ideal.ofBits .f32 1090519040#32) := by
  pointwise [r_v50, r_v49, r_v48, r_cst_8, r_cst_9]
end
end Cert.ReferenceIdeal.Ce
-- ==== Proof.RRun.lean ====
/- What the reference's run leaves in its two results. -/
module

public import proofs.«01_k».proof.Proof.RVal
public import proofs.«01_k».proof.Proof.Gen.ReferenceIdeal.Frame
public import Idealize.ShloMosaic.Lib.Pipeline.ValueKit

@[expose] public section

set_option maxRecDepth 16384

noncomputable section

open Idealize.ShloMosaic Idealize.ShloMosaic.TcCoe Idealize.SL.Sem

namespace Cert.ReferenceIdeal.Ce
open Cert.ReferenceIdeal Cert.ReferenceIdeal.Gen Cert.Ce

variable (m : (ℓ : Loc nD τ sig) → Buf (Elt Ideal) ℓ) (ρ : Dev nD → PrngReg)

/-- The widened weights are the weights. -/
theorem widened (c : Dev nD) : (dats m 0 c).arrAt 1 cfg0.N = ((m ((c : Thread nD τ).loc main_arg1) : Vec Ideal S8x4096x2048 .fp8e4m3) : Vec Ideal S8x4096x2048 .bf16) := by
  refine (dats m 0 c).arrAt_eq_of_covers 1 _ (by decide +kernel) (fun t hf y => ?_)
  blk_simp
  rw [after0_1]
  frame_out
  rfl

theorem arr_inj : Function.Injective (Pipeline.arrRef spec0) := by decide

theorem after_loss (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10] c main_v40
    = r_v40 (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  refine (tail_loss _).trans ?_
  rw [Pipeline.withArrays_of_ne _ c (V0 m c) _ main_arg0 (by exact (by decide : ∀ w, Pipeline.arrRef spec0 w ≠ main_arg0)), Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)), Pipeline.withArrays_of_ne _ c (V0 m c) _ main_arg4 (by exact (by decide : ∀ w, Pipeline.arrRef spec0 w ≠ main_arg4))]
  exact congrArg (fun W => r_v40 _ W _ _ _) ((Pipeline.withArrays_arr spec0 arr_inj c (V0 m c) _ 1).trans (widened m c))

theorem after_mean (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10] c main_v50
    = r_v50 (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  refine (tail_mean _).trans ?_
  rw [Pipeline.withArrays_of_ne _ c (V0 m c) _ main_arg0 (by exact (by decide : ∀ w, Pipeline.arrRef spec0 w ≠ main_arg0)), Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)), Pipeline.withArrays_of_ne _ c (V0 m c) _ main_arg4 (by exact (by decide : ∀ w, Pipeline.arrRef spec0 w ≠ main_arg4))]
  exact congrArg (fun W => r_v50 _ W _ _ _) ((Pipeline.withArrays_arr spec0 arr_inj c (V0 m c) _ 1).trans (widened m c))

/-- The reference's run: its two results as functions of the arguments, and the arguments unchanged. -/
theorem run_values : θ_run defs (onTc (τ := τ) (main (F := Ideal))) ⟨m, fun _ => 0, ρ⟩ (fun r => ∀ c : Dev nD,
      r.2.mem ((c.tc : Thread nD τ).loc main_v40) = r_v40 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v50) = r_v50 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (((h c).2 main_v40 (Pipeline.mem_restRefs_of main_v40 (by decide) (by decide))).trans (after_loss m c)),
      (((h c).2 main_v50 (Pipeline.mem_restRefs_of main_v50 (by decide) (by decide))).trans (after_mean m c)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.Ce
-- ==== Proof.Same.lean ====
/- The two programs leave the same losses and the same mean: the kernel's by tiles of rows and by codebooks, the reference's whole. -/
module

public import proofs.«01_k».proof.Defs
public import proofs.«01_k».proof.Proof.IRunVal
public import proofs.«01_k».proof.Proof.RRun
public import proofs.«01_k».proof.Proof.Gen.Pre_codes_in_vocab

@[expose] public section

set_option maxRecDepth 16384

noncomputable section

open Idealize.ShloMosaic Idealize.ShloMosaic.TcCoe Idealize.SL.Sem

namespace Cert.Ce
open Cert.KernelIdeal.Ce (lossAt tgt zrow back k_v33 k_v48 k_v47 k_v54 k_v55)
open Cert.ReferenceIdeal.Ce (r_v40 r_v42 r_v46 r_v47 r_v50 zr)

section
variable (X : FVec Ideal Cert.KernelIdeal.S11520x4096 .bf16) (W : Vec Ideal Cert.KernelIdeal.S8x4096x2048 .fp8e4m3) (Sc : FVec Ideal Cert.KernelIdeal.S8x2048 .f32)
  (C : IVec Cert.KernelIdeal.S6x1920x8 32) (L : IVec Cert.KernelIdeal.S6 32)
  (hC : ∀ (b : Fin 6) (t : Fin 1920) (k : Fin 8), (C (ix3 b t k) : BitVec 32).toNat < 2048)

/-- The reference's loss, from the arguments as the kernel program holds them. -/
abbrev refLoss : FVec Ideal Cert.ReferenceIdeal.S6x1920x8 .f32 := r_v40 X W Sc C L

/-- The delayed target of row `n`. -/
theorem code_row (b : Fin 6) (t : Fin 1920) (k : Fin 8) : k_v33 C (ix2 (⟨b.val * 1920 + t.val, by omega⟩ : Fin 11520) k) = back C b t k :=
  (Cert.KernelIdeal.Ce.v33_at C b t k).trans (Cert.KernelIdeal.Ce.v32_at C b t k)

theorem row_split (n : Fin 11520) : ∃ (b : Fin 6) (t : Fin 1920), n = (⟨b.val * 1920 + t.val, by omega⟩ : Fin 11520) :=
  ⟨⟨n.val / 1920, by omega⟩, ⟨n.val % 1920, by omega⟩, Fin.ext (by simp only; omega)⟩

include hC in
theorem code_lt_row (n : Fin 11520) (k : Fin 8) : (k_v33 C (ix2 n k) : BitVec 32).toNat < 2048 := by
  obtain ⟨b, t, rfl⟩ := row_split n
  rw [code_row]
  unfold back
  split
  · exact hC _ _ _
  · decide

include hC in
/-- The kernel's loss of a row under a codebook is the reference's. -/
theorem loss_same (b : Fin 6) (t : Fin 1920) (k : Fin 8) :
    lossAt X W (k_v48 Sc) (k_v33 C) L (⟨b.val * 1920 + t.val, by omega⟩ : Fin 11520) k = refLoss X W Sc C L (ix3 b t k) := by
  refine Eq.trans ?_ (Cert.ReferenceIdeal.Ce.v40_at X W Sc C L b t k hC).symm
  unfold lossAt
  have e1 : (⟨(b.val * 1920 + t.val) / 1920, by omega⟩ : Fin 6) = b := Fin.ext (by simp only; omega)
  have e2 : (b.val * 1920 + t.val) % 1920 = t.val := by omega
  simp only [e1, e2]
  by_cases h : mask (L (ix1 b)) t.val k.val = 1#1
  · rw [if_pos h, if_pos h]
    have hk := ((mask_iff _ _ _ t.isLt k.isLt).mp h).1
    have e3 : zrow X W (k_v48 Sc) (⟨b.val * 1920 + t.val, by omega⟩ : Fin 11520) k = zr X W Sc b t k := by
      funext v
      unfold zrow zr
      rw [Cert.KernelIdeal.Ce.v48_at]
    have e4 : tgt (k_v33 C (ix2 (⟨b.val * 1920 + t.val, by omega⟩ : Fin 11520) k))
        = (⟨(C (ix3 b (⟨t.val - k.val, by omega⟩ : Fin 1920) k) : BitVec 32).toNat % 2048, Nat.mod_lt _ (by omega)⟩ : Fin 2048) := by
      rw [code_row]
      unfold back
      rw [dif_pos hk]
      rfl
    exact congrArg₂ ceOf e3 e4
  · rw [if_neg h, if_neg h]

/-- The numbers of frames kept agree. -/
theorem count_same (k : Fin 8) : k_v47 L (ix1 k) = r_v46 L (ix1 k) := by
  refine (Cert.KernelIdeal.Ce.v47_at L k).trans (Eq.trans ?_ (Cert.ReferenceIdeal.Ce.v46_at L k).symm)
  have e : Cert.KernelIdeal.Ce.k_v43 L (ix1 k) = r_v42 L (ix1 k) := by
    refine (Cert.KernelIdeal.Ce.v43_at L k).trans (Eq.trans ?_ (Cert.ReferenceIdeal.Ce.v42_at L k).symm)
    simp only [count_block]
  rw [e]

end

theorem reduce_all {s t u : Shape} {axes : List (Fin s.rank)} (x : s.Idx → BitVec 1) (init : u.Idx → BitVec 1) (h : s.ReducesTo axes t) (hu : 0 < u.numel)
    (hi : init (Shape.Idx.first hu) = 1#1) (j : t.Idx) (hj : Host.reduce IntOp.andi x init h hu j = 1#1) (i : s.Idx) (hd : h.drop i = j) : x i = 1#1 := by
  rw [Host.reduce_eq_fold, hi] at hj
  exact (fold_andi _ _).mp hj i (Finset.mem_filter.mpr ⟨Finset.mem_univ _, hd⟩)

/-- What the precondition says. -/
theorem pre_decode (X : FVec Ideal Cert.Pre_codes_in_vocab.S11520x4096 .bf16) (W : FVec Ideal Cert.Pre_codes_in_vocab.S8x4096x2048 .fp8e4m3) (Sc : FVec Ideal Cert.Pre_codes_in_vocab.S8x2048 .f32)
    (C : IVec Cert.Pre_codes_in_vocab.S6x1920x8 32) (L : IVec Cert.Pre_codes_in_vocab.S6 32)
    (h : @Cert.Pre_codes_in_vocab.fn Cert.Pre_codes_in_vocab.Gen.facts Ideal _ X W Sc C L = fun _ => 1#1) :
    (∀ (b : Fin 6) (t : Fin 1920) (k : Fin 8), (C (ix3 b t k) : BitVec 32).toNat < 2048) ∧ ∀ b : Fin 6, (L (ix1 b) : BitVec 32).toInt ≤ 2147483640 := by
  have h := congrFun h ix0
  unfold Cert.Pre_codes_in_vocab.fn at h
  have e (u v : BitVec 1) : IntOp.andi u v = 1#1 ↔ u = 1#1 ∧ v = 1#1 := by
    revert u v; decide
  obtain ⟨h, h3⟩ := (e _ _).mp h
  obtain ⟨h1, h2⟩ := (e _ _).mp h
  refine ⟨fun b t k => ?_, fun b => ?_⟩
  · refine code_lt _ ?_ ?_
    · exact reduce_all _ _ _ _ rfl _ h1 (ix3 b t k) (funext fun a => a.elim0)
    · exact reduce_all _ _ _ _ rfl _ h2 (ix3 b t k) (funext fun a => a.elim0)
  · refine len_le _ ?_
    exact reduce_all _ _ _ _ rfl _ h3 (ix1 b) (funext fun a => a.elim0)

section
open Cert.KernelIdeal

variable (m : (ℓ : Loc nD τ sig) → Buf (Elt Ideal) ℓ)

/-- The reference's results at the kernel program's arguments. -/
abbrev lossOf (c : Dev nD) : FVec Ideal Cert.ReferenceIdeal.S6x1920x8 .f32 :=
  r_v40 (m ((c : Thread nD τ).loc main_arg0)) (m ((c : Thread nD τ).loc main_arg1)) (m ((c : Thread nD τ).loc main_arg2)) (m ((c : Thread nD τ).loc main_arg3)) (m ((c : Thread nD τ).loc main_arg4))
abbrev meanOf (c : Dev nD) : FVec Ideal Cert.ReferenceIdeal.S_ .f32 :=
  r_v50 (m ((c : Thread nD τ).loc main_arg0)) (m ((c : Thread nD τ).loc main_arg1)) (m ((c : Thread nD τ).loc main_arg2)) (m ((c : Thread nD τ).loc main_arg3)) (m ((c : Thread nD τ).loc main_arg4))

variable (hC : ∀ (b : Fin 6) (t : Fin 1920) (k : Fin 8), ((m (((0 : Dev nD) : Thread nD τ).loc main_arg3) : IVec S6x1920x8 32) (ix3 b t k) : BitVec 32).toNat < 2048)
  (hL : ∀ b : Fin 6, ((m (((0 : Dev nD) : Thread nD τ).loc main_arg4) : IVec S6 32) (ix1 b) : BitVec 32).toInt ≤ 2147483640)

include hL in
theorem lens_ok : ∀ b : Fin 6, ((Cert.KernelIdeal.Ce.V m 0 main_arg4 : Vec Ideal S6 .i32) (ix1 b) : BitVec 32).toInt ≤ 2147483640 := by
  rw [Cert.KernelIdeal.Ce.V_main_arg4 m 0]
  exact hL

include hC in
theorem codes_ok : ∀ (n : Fin 11520) (k : Fin 8), ((Cert.KernelIdeal.Ce.V m 0 main_v33 : Vec Ideal S11520x8 .i32) (ix2 n k) : BitVec 32).toNat < 2048 := by
  rw [Cert.KernelIdeal.Ce.V_codes m 0]
  exact code_lt_row _ hC

include hC in
theorem lossM_same (b : Fin 6) (t : Fin 1920) (k : Fin 8) :
    Cert.KernelIdeal.Ce.lossM m (⟨b.val * 1920 + t.val, by omega⟩ : Fin 11520) k = lossOf m 0 (ix3 b t k) := by
  refine Eq.trans ?_ (loss_same _ _ _ _ _ hC b t k)
  show lossAt (Cert.KernelIdeal.Ce.V m 0 main_arg0) (Cert.KernelIdeal.Ce.V m 0 main_arg1) (Cert.KernelIdeal.Ce.V m 0 main_v48) (Cert.KernelIdeal.Ce.V m 0 main_v33) (Cert.KernelIdeal.Ce.V m 0 main_arg4) _ k = _
  rw [Cert.KernelIdeal.Ce.V_main_arg0 m 0, Cert.KernelIdeal.Ce.V_main_arg1 m 0, Cert.KernelIdeal.Ce.V_main_arg4 m 0, Cert.KernelIdeal.Ce.V_codes m 0, Cert.KernelIdeal.Ce.V_scales m 0]

include hC hL in
theorem loss_eq (hO : Cert.KernelIdeal.Ce.Ok m) :
    k_v55 ((Cert.KernelIdeal.Ce.dats m hO 0 0).arrAt 4 (Cert.KernelIdeal.Ce.cfgM m hO).N) = lossOf m 0 := by
  refine (congrArg k_v55 (Cert.KernelIdeal.Ce.arr_loss m (lens_ok m hL) (codes_ok m hC) hO)).trans ?_
  refine funext (fun (j : Shape.Idx S6x1920x8) => ?_)
  obtain ⟨b, t, k, rfl⟩ : ∃ (b : Fin 6) (t : Fin 1920) (k : Fin 8), j = (ix3 b t k : Shape.Idx S6x1920x8) := ⟨j 0, j 1, j 2, by idx_ext⟩
  exact (Cert.KernelIdeal.Ce.v55_at _ b t k).trans (lossM_same m hC b t k)

include hC hL in
theorem mean_eq (hO : Cert.KernelIdeal.Ce.Ok m) :
    k_v54 ((Cert.KernelIdeal.Ce.dats m hO 0 0).arrAt 5 (Cert.KernelIdeal.Ce.cfgM m hO).N) (k_v47 (m (((0 : Dev nD) : Thread nD τ).loc main_arg4))) = meanOf m 0 := by
  obtain ⟨A, hA, hs⟩ := Cert.KernelIdeal.Ce.arr_sums m (lens_ok m hL) (codes_ok m hC) hO
  refine (congrArg (fun Q => k_v54 Q _) hA).trans ?_
  refine funext (fun (j : Shape.Idx S_) => ?_)
  refine (Cert.KernelIdeal.Ce.v54_at A _ j).trans (Eq.trans ?_ (Cert.ReferenceIdeal.Ce.v50_at _ _ _ _ _ j).symm)
  refine congrArg (fun q : EReal => Ideal.div q _) (Finset.sum_congr rfl fun k _ => ?_)
  refine congrArg₂ Ideal.div ?_ (count_same _ k)
  refine (hs 0 k).trans (Eq.trans ?_ (Cert.ReferenceIdeal.Ce.v47_at _ _ _ _ _ k).symm)
  rw [Fin.sum_univ_tiles 6 1920 rfl]
  exact Finset.sum_congr rfl fun b _ => Finset.sum_congr rfl fun t _ => lossM_same m hC b t k

end

/-- From equal arguments the two programs end with equal results. -/
theorem algebraic : @Cert.algebraic_KernelIdeal_ReferenceIdeal_pre_codes_in_vocab Cert.KernelIdeal.Gen.facts Cert.ReferenceIdeal.Gen.facts Cert.Pre_codes_in_vocab.Gen.facts := by
  intro m g m' g' hpre hm
  obtain ⟨hC, hL⟩ := pre_decode _ _ _ _ _ (hpre 0)
  have hO := Cert.KernelIdeal.Ce.ok m
  refine ⟨fun c => lossOf m c, fun c => meanOf m c, ?_, ?_⟩
  · refine (θ_run Cert.KernelIdeal.defs _ _).mono (fun r h c => ?_) (Cert.KernelIdeal.Ce.run_values m g hO)
    obtain rfl : c = 0 := Subsingleton.elim _ _
    obtain ⟨h0, h1, hr⟩ := h 0
    exact ⟨h0.trans (loss_eq m hC hL hO), h1.trans (mean_eq m hC hL hO), hr⟩
  · refine (θ_run Cert.ReferenceIdeal.defs _ _).mono (fun r h c => ?_) (Cert.ReferenceIdeal.Ce.run_values m' g')
    obtain ⟨h0, h1, hr⟩ := h c
    obtain ⟨e0, e1, e2, e3, e4⟩ := hm c
    refine ⟨h0.trans ?_, h1.trans ?_, hr⟩
    · rw [e0, e1, e2, e3, e4]
    · rw [e0, e1, e2, e3, e4]

end Cert.Ce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_codes_in_vocab
public import proofs.«01_k».proof.Proof.KFrame
public import proofs.«01_k».proof.Proof.IFrame
public import proofs.«01_k».proof.Proof.Same
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_codes_in_vocab.Gen.facts,
  fun m ρ _ => Cert.Kernel.Ce.frame m ρ (Cert.Kernel.Ce.ok m),
  fun m ρ _ => Cert.KernelIdeal.Ce.frame m ρ (Cert.KernelIdeal.Ce.ok m),
  fun m ρ _ => Cert.KernelIdeal.Ce.frame m ρ (Cert.KernelIdeal.Ce.ok m),
  fun m ρ _ => Cert.ReferenceIdeal.Gen.frame m ρ,
  fun m ρ _ => Cert.ReferenceIdeal.Gen.frame m ρ,
  trivial,
  Cert.Ce.algebraic⟩

end Cert.Proof

end
